-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S47x1024x3584 : Shape := ⟨3, ![47, 1024, 3584]⟩
abbrev S1024x256 : Shape := ⟨2, ![1024, 256]⟩
abbrev S256 : Shape := ⟨1, ![256]⟩
abbrev S1x256 : Shape := ⟨2, ![1, 256]⟩
abbrev S1x512x3584 : Shape := ⟨3, ![1, 512, 3584]⟩
abbrev S8x3584 : Shape := ⟨2, ![8, 3584]⟩
abbrev S16x3584 : Shape := ⟨2, ![16, 3584]⟩
abbrev S8x256 : Shape := ⟨2, ![8, 256]⟩
abbrev S8x128 : Shape := ⟨2, ![8, 128]⟩
abbrev S8x128x1 : Shape := ⟨3, ![8, 128, 1]⟩
abbrev S1x896 : Shape := ⟨2, ![1, 896]⟩
abbrev S16x896 : Shape := ⟨2, ![16, 896]⟩
abbrev S1x32x896 : Shape := ⟨3, ![1, 32, 896]⟩
abbrev S32x896 : Shape := ⟨2, ![32, 896]⟩
abbrev S3584 : Shape := ⟨1, ![3584]⟩
abbrev S1x3584 : Shape := ⟨2, ![1, 3584]⟩
abbrev S1023x256 : Shape := ⟨2, ![1023, 256]⟩

abbrev nBuf : Space → Nat
  | .hbm => 8
  | .vmem => 11
  | .smem => 0
  | _ => 0

abbrev bufTy : (tb : Table) → Fin (tcTables nBuf tb) → BufTy
  | .hbm, ⟨0, _⟩ => ⟨S47x1024x3584, .bf16⟩
  | .hbm, ⟨1, _⟩ => ⟨S1024x256, .f32⟩
  | .hbm, ⟨2, _⟩ => ⟨S256, .f32⟩
  | .hbm, ⟨3, _⟩ => ⟨S1x256, .f32⟩
  | .hbm, ⟨4, _⟩ => ⟨S47x1024x3584, .fp8e4m3⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x512x3584, .bf16⟩
  | .local _ .vmem, ⟨1, _⟩ => ⟨S1x512x3584, .bf16⟩
  | .local _ .vmem, ⟨2, _⟩ => ⟨S1024x256, .f32⟩
  | .local _ .vmem, ⟨3, _⟩ => ⟨S1x256, .f32⟩
  | .local _ .vmem, ⟨4, _⟩ => ⟨S1x512x3584, .fp8e4m3⟩
  | .local _ .vmem, ⟨5, _⟩ => ⟨S1x512x3584, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S8x3584, .f32⟩
  | .local _ .vmem, ⟨10, _⟩ => ⟨S16x3584, .bf16⟩
  | _, _ => ⟨S47x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![94], ![false]⟩

@[reducible] def k0_t1_loop : Scf.Loop 32 :=
  let c0_i32_4 : BitVec 32 := 0#32
  let c16_i32 : BitVec 32 := 16#32
  let v5 : BitVec 32 := Scalar.addi c0_i32_4 c16_i32
  let c1_i32 : BitVec 32 := 1#32
  ⟨c0_i32_4, v5, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c32_i32 : BitVec 32 := 32#32
  let v34 : BitVec 32 := Scalar.muli arg10 c32_i32
  v34
def k0_off1 (k0_t1 : Fin k0_t1_loop.trips) : Fin 3 → Nat :=
  let c0_36 : Index := 0#32
  let c0_i32_4 : BitVec 32 := 0#32
  let c1_i32 : BitVec 32 := 1#32
  let arg10 : BitVec 32 := Scf.iv c0_i32_4 c1_i32 k0_t1
  let c32_i32 : BitVec 32 := 32#32
  let v34 : BitVec 32 := Scalar.muli arg10 c32_i32
  let v35 : BitVec 32 := v34
  let v36 : Index := Scalar.indexCast v35
  let c0_37 : Index := 0#32
  ![0, v36.toNat, 0]
@[reducible] def k0_t2_loop : Scf.Loop 32 :=
  let c0_i32_11 : BitVec 32 := 0#32
  let c16_i32_12 : BitVec 32 := 16#32
  let v12 : BitVec 32 := Scalar.addi c0_i32_11 c16_i32_12
  let c1_i32_13 : BitVec 32 := 1#32
  ⟨c0_i32_11, v12, c1_i32_13⟩
def k0_mult2 (k0_t2 : Fin k0_t2_loop.trips) : BitVec 32 :=
  let c0_i32_11 : BitVec 32 := 0#32
  let c1_i32_13 : BitVec 32 := 1#32
  let arg10 : BitVec 32 := Scf.iv c0_i32_11 c1_i32_13 k0_t2
  let c32_i32 : BitVec 32 := 32#32
  let v34 : BitVec 32 := Scalar.muli arg10 c32_i32
  v34
def k0_off2 (k0_t2 : Fin k0_t2_loop.trips) : Fin 3 → Nat :=
  let c0_36 : Index := 0#32
  let c0_i32_11 : BitVec 32 := 0#32
  let c1_i32_13 : BitVec 32 := 1#32
  let arg10 : BitVec 32 := Scf.iv c0_i32_11 c1_i32_13 k0_t2
  let c32_i32 : BitVec 32 := 32#32
  let v34 : BitVec 32 := Scalar.muli arg10 c32_i32
  let v35 : BitVec 32 := v34
  let v36 : Index := Scalar.indexCast v35
  let c896_37 : Index := 896#32
  ![0, v36.toNat, 896]
@[reducible] def k0_t3_loop : Scf.Loop 32 :=
  let c0_i32_20 : BitVec 32 := 0#32
  let c16_i32_21 : BitVec 32 := 16#32
  let v19 : BitVec 32 := Scalar.addi c0_i32_20 c16_i32_21
  let c1_i32_22 : BitVec 32 := 1#32
  ⟨c0_i32_20, v19, c1_i32_22⟩
def k0_mult3 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c32_i32 : BitVec 32 := 32#32
  let v34 : BitVec 32 := Scalar.muli arg10 c32_i32
  v34
def k0_off3 (k0_t3 : Fin k0_t3_loop.trips) : Fin 3 → Nat :=
  let c0_36 : Index := 0#32
  let c0_i32_20 : BitVec 32 := 0#32
  let c1_i32_22 : BitVec 32 := 1#32
  let arg10 : BitVec 32 := Scf.iv c0_i32_20 c1_i32_22 k0_t3
  let c32_i32 : BitVec 32 := 32#32
  let v34 : BitVec 32 := Scalar.muli arg10 c32_i32
  let v35 : BitVec 32 := v34
  let v36 : Index := Scalar.indexCast v35
  let c1792_37 : Index := 1792#32
  ![0, v36.toNat, 1792]
@[reducible] def k0_t4_loop : Scf.Loop 32 :=
  let c0_i32_29 : BitVec 32 := 0#32
  let c16_i32_30 : BitVec 32 := 16#32
  let v26 : BitVec 32 := Scalar.addi c0_i32_29 c16_i32_30
  let c1_i32_31 : BitVec 32 := 1#32
  ⟨c0_i32_29, v26, c1_i32_31⟩
def k0_mult4 (k0_t4 : Fin k0_t4_loop.trips) : BitVec 32 :=
  let c0_i32_29 : BitVec 32 := 0#32
  let c1_i32_31 : BitVec 32 := 1#32
  let arg10 : BitVec 32 := Scf.iv c0_i32_29 c1_i32_31 k0_t4
  let c32_i32 : BitVec 32 := 32#32
  let v34 : BitVec 32 := Scalar.muli arg10 c32_i32
  v34
def k0_off4 (k0_t4 : Fin k0_t4_loop.trips) : Fin 3 → Nat :=
  let c0_36 : Index := 0#32
  let c0_i32_29 : BitVec 32 := 0#32
  let c1_i32_31 : BitVec 32 := 1#32
  let arg10 : BitVec 32 := Scf.iv c0_i32_29 c1_i32_31 k0_t4
  let c32_i32 : BitVec 32 := 32#32
  let v34 : BitVec 32 := Scalar.muli arg10 c32_i32
  let v35 : BitVec 32 := v34
  let v36 : Index := Scalar.indexCast v35
  let c2688_37 : Index := 2688#32
  ![0, v36.toNat, 2688]
def k0_cond2 (i : grid0.Coords) : BitVec 1 :=
  let arg0 : BitVec 32 := BitVec.ofNat 32 (i 0).val
  let c93_i32 : BitVec 32 := 93#32
  let v31 : BitVec 1 := Scalar.cmpi .eq arg0 c93_i32
  let v32 : BitVec 32 := Scalar.extui v31
  let c0_i32_35 : BitVec 32 := 0#32
  let v33 : BitVec 1 := Scalar.cmpi .ne v32 c0_i32_35
  v33

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S47x1024x3584 : Shape := ⟨3, ![47, 1024, 3584]⟩
abbrev S1024x256 : Shape := ⟨2, ![1024, 256]⟩
abbrev S256 : Shape := ⟨1, ![256]⟩
abbrev S47x1024x256x14 : Shape := ⟨4, ![47, 1024, 256, 14]⟩
abbrev S_ : Shape := ⟨0, ![]⟩
abbrev S256x1 : Shape := ⟨2, ![256, 1]⟩
abbrev S1x1x256x1 : Shape := ⟨4, ![1, 1, 256, 1]⟩
abbrev S1x256 : Shape := ⟨2, ![1, 256]⟩
abbrev S1023x256 : Shape := ⟨2, ![1023, 256]⟩
abbrev S253 : Shape := ⟨1, ![253]⟩
abbrev S253x1 : Shape := ⟨2, ![253, 1]⟩
abbrev S253x256 : Shape := ⟨2, ![253, 256]⟩

abbrev nBuf : Space → Nat
  | .hbm => 68
  | .vmem => 0
  | .smem => 0
  | _ => 0

abbrev bufTy : (tb : Table) → Fin (tcTables nBuf tb) → BufTy
  | .hbm, ⟨0, _⟩ => ⟨S47x1024x3584, .bf16⟩
  | .hbm, ⟨1, _⟩ => ⟨S1024x256, .f32⟩
  | .hbm, ⟨2, _⟩ => ⟨S256, .f32⟩
  | .hbm, ⟨3, _⟩ => ⟨S47x1024x256x14, .bf16⟩
  | .hbm, ⟨4, _⟩ => ⟨S47x1024x256x14, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S256x1, .f32⟩
  | .hbm, ⟨9, _⟩ => ⟨S1x1x256x1, .f32⟩
  | .hbm, ⟨10, _⟩ => ⟨S47x1024x256x14, .f32⟩
  | .hbm, ⟨11, _⟩ => ⟨S47x1024x256x14, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S47x1024x256x14, .f32⟩
  | .hbm, ⟨16, _⟩ => ⟨S47x1024x256x14, .f32⟩
  | .hbm, ⟨17, _⟩ => ⟨S_, .f32⟩
  | .hbm, ⟨18, _⟩ => ⟨S47x1024x256x14, .f32⟩
  | .hbm, ⟨19, _⟩ => ⟨S47x1024x256x14, .f32⟩
  | .hbm, ⟨20, _⟩ => ⟨S47x1024x256x14, .fp8e4m3⟩
  | .hbm, ⟨21, _⟩ => ⟨S47x1024x3584, .fp8e4m3⟩
  | .hbm, ⟨22, _⟩ => ⟨S47x1024x256x14, .f32⟩
  | .hbm, ⟨23, _⟩ => ⟨S_, .f32⟩
  | .hbm, ⟨24, _⟩ => ⟨S256, .f32⟩
  | .hbm, ⟨25, _⟩ => ⟨S1x256, .f32⟩
  | .hbm, ⟨26, _⟩ => ⟨S1023x256, .f32⟩
  | .hbm, ⟨27, _⟩ => ⟨S1024x256, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S253, .i32⟩
  | .hbm, ⟨34, _⟩ => ⟨S_, .i32⟩
  | .hbm, ⟨35, _⟩ => ⟨S253, .i32⟩
  | .hbm, ⟨36, _⟩ => ⟨S253, .i32⟩
  | .hbm, ⟨37, _⟩ => ⟨S253, .f32⟩
  | .hbm, ⟨38, _⟩ => ⟨S_, .f32⟩
  | .hbm, ⟨39, _⟩ => ⟨S253, .f32⟩
  | .hbm, ⟨40, _⟩ => ⟨S253, .f32⟩
  | .hbm, ⟨41, _⟩ => ⟨S253x1, .f32⟩
  | .hbm, ⟨42, _⟩ => ⟨S1x256, .f32⟩
  | .hbm, ⟨43, _⟩ => ⟨S253x256, .f32⟩
  | .hbm, ⟨44, _⟩ => ⟨S253x256, .f32⟩
  | .hbm, ⟨45, _⟩ => ⟨S253x256, .i1⟩
  | .hbm, ⟨46, _⟩ => ⟨S253x1, .f32⟩
  | .hbm, ⟨47, _⟩ => ⟨S_, .f32⟩
  | .hbm, ⟨48, _⟩ => ⟨S_, .f32⟩
  | .hbm, ⟨49, _⟩ => ⟨S253x256, .f32⟩
  | .hbm, ⟨50, _⟩ => ⟨S253x256, .f32⟩
  | .hbm, ⟨51, _⟩ => ⟨S253x256, .f32⟩
  | .hbm, ⟨52, _⟩ => ⟨S_, .f32⟩
  | .hbm, ⟨53, _⟩ => ⟨S256, .f32⟩
  | .hbm, ⟨54, _⟩ => ⟨S256, .i1⟩
  | .hbm, ⟨55, _⟩ => ⟨S_, .f32⟩
  | .hbm, ⟨56, _⟩ => ⟨S256, .f32⟩
  | .hbm, ⟨57, _⟩ => ⟨S256, .i1⟩
  | .hbm, ⟨58, _⟩ => ⟨S256, .i1⟩
  | .hbm, ⟨59, _⟩ => ⟨S_, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S1x256, .f32⟩
  | .hbm, ⟨67, _⟩ => ⟨S1x256, .f32⟩
  | _, _ => ⟨S47x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_cst_10 : Ref sig .tc := ⟨.hbm, 61, rfl⟩
abbrev main_call2_v0 : Ref sig .tc := ⟨.hbm, 62, rfl⟩
abbrev main_call2_v1 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.KB.Shared.lean ====
/- What the runs of the kernel's frame share: the kernel up to its region, the arrays' contents there, each window's block at
   a point, and the conditions of its conditionals in closed form over the points. The text follows the frame that the generator
   writes for a kernel whose outputs nothing reads, and names nothing of what the outputs hold. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 94 = 0 :=
  (fun t => by
    have ht : t.val < 94 := Nat.lt_of_lt_of_eq t.isLt N_0
    have e0 : (grid0.coords t 0).val = t.val / 1 % 94 := Pipeline.Grid.coords_val t 0 (by decide) rfl
    simp only [cond0_0, k0_cond1, e0]
    word_cmp
   : ∀ t : Fin grid0.N, cond0_0 (grid0.coords t) ↔ t.val % 94 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 94 = 93 :=
  (fun t => by
    have ht : t.val < 94 := Nat.lt_of_lt_of_eq t.isLt N_0
    have e0 : (grid0.coords t 0).val = t.val / 1 % 94 := Pipeline.Grid.coords_val t 0 (by decide) rfl
    simp only [cond0_1, k0_cond2, e0]
    word_cmp
   : ∀ t : Fin grid0.N, cond0_1 (grid0.coords t) ↔ t.val % 94 = 93)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S8x3584 .f32 := Memref.whole cc0_scratch0
abbrev scM0_1 : Memref sig .tc .vmem S16x3584 .bf16 := Memref.whole cc0_scratch1
/-- The scratch `arg8` the kernel carries between points, as a view: what it holds is stated through it. -/
abbrev VS0_0 : View sig .tc .vmem S8x3584 .f32 := scM0_0.view
/-- The scratch `arg9` the kernel carries between points, as a view: what it holds is stated through it. -/
abbrev VS0_1 : View sig .tc .vmem S16x3584 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Whole

end
-- ==== Proof.KB.RunA.lean ====
/- The kernel's body run at the first grid point: what its stores leave in the two scratch arrays, with nothing said of the
   outputs' contents. -/
module

public import proofs.«01_k».proof.Proof.KB.Shared

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6) at anything, handed back at some contents nothing names. -/
noncomputable def kernelRun0_A (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec F S1x512x3584 .bf16) (x1 : Vec F S1024x256 .f32) (x2 : Vec F S1x256 .f32) :
    Σ' (LS0 : List (View.Piece (Elt F) S8x3584 .f32)), { LS1 : List (View.Piece (Elt F) S16x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_delayed_scaling_fp8_step i arg1 harg1 arg2 harg2 arg3 harg3 arg4 harg4 arg5 harg5 arg6 harg6 arg7 harg7 arg8 harg8 arg9 harg9) K } := by
  refine ⟨?_, ?_, fun E K => ?run⟩
  case run =>
    simp only [cc0_delayed_scaling_fp8_step_eq_skeleton]; unfold cc0_delayed_scaling_fp8_step_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]; · iexists _; iexact HS0
    iexists _; iexact HS1

end Cert.Kernel.Whole

end
-- ==== Proof.KB.RunB.lean ====
/- The kernel's body run at the grid points between the first and the last: what its stores leave in the running maxima, with
   nothing said of the outputs' contents. -/
module

public import proofs.«01_k».proof.Proof.KB.RunA

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 92: 92 of 94), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6) at anything, handed back at some contents nothing names. -/
noncomputable def kernelRun0_B (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec F S1x512x3584 .bf16) (x1 : Vec F S1024x256 .f32) (x2 : Vec F S1x256 .f32) (xs0 : Vec F S8x3584 .f32) (xs1 : Vec F S16x3584 .bf16) :
    Σ' (LS0 : List (View.Piece (Elt F) S8x3584 .f32)), { LS1 : List (View.Piece (Elt F) S16x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_delayed_scaling_fp8_step i arg1 harg1 arg2 harg2 arg3 harg3 arg4 harg4 arg5 harg5 arg6 harg6 arg7 harg7 arg8 harg8 arg9 harg9) K } := by
  refine ⟨[], ?_, fun E K => ?run⟩
  case run =>
    simp only [cc0_delayed_scaling_fp8_step_eq_skeleton]; unfold cc0_delayed_scaling_fp8_step_skel
    simp only [k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg8.read_unread _
      iexact HS0
    iexists _; iexact HS1

end Cert.Kernel.Whole

end
-- ==== Proof.KB.RunC.lean ====
/- The kernel's body run at the last grid point: what its stores leave in the running maxima, with nothing said of the outputs'
   contents. -/
module

public import proofs.«01_k».proof.Proof.KB.RunB

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 93), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6) at anything, handed back at some contents nothing names. -/
noncomputable def kernelRun0_C (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec F S1x512x3584 .bf16) (x1 : Vec F S1024x256 .f32) (x2 : Vec F S1x256 .f32) (xs0 : Vec F S8x3584 .f32) (xs1 : Vec F S16x3584 .bf16) :
    Σ' (LS0 : List (View.Piece (Elt F) S8x3584 .f32)), { LS1 : List (View.Piece (Elt F) S16x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_delayed_scaling_fp8_step i arg1 harg1 arg2 harg2 arg3 harg3 arg4 harg4 arg5 harg5 arg6 harg6 arg7 harg7 arg8 harg8 arg9 harg9) K } := by
  refine ⟨[], ?_, fun E K => ?run⟩
  case run =>
    simp only [cc0_delayed_scaling_fp8_step_eq_skeleton]; unfold cc0_delayed_scaling_fp8_step_skel
    simp only [k0_part27_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg8.read_unread _
      iexact HS0
    iexists _; iexact HS1

end Cert.Kernel.Whole

end
-- ==== Proof.KB.Frame.lean ====
/- The kernel's frame, from its body's three runs: what the two carried scratch arrays hold after each point, the obligation of
   the body, the run of the whole kernel, and the frame claim. -/
module

public import proofs.«01_k».proof.Proof.KB.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 28 pieces of `S8x128` tiling it (Lib/Ring.lean `Piece.tiledL`). -/
theorem scover0_A_0 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec F S1x512x3584 .bf16) (x1 : Vec F S1024x256 .f32) (x2 : Vec F S1x256 .f32) (y : S8x3584.Idx) :
    ∃ pc ∈ (kernelRun0_A c i arg1 harg1 arg2 harg2 arg3 harg3 arg4 harg4 arg5 harg5 arg6 harg6 arg7 harg7 arg8 harg8 arg9 harg9 hc0 hc1 x0 x1 x2).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2).1 S8x128.size (by sl_kernel_rfl) y

/-- What case A leaves in scratch `arg8`: its pieces read back over junk. -/
def sout0_A_0 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec F S1x512x3584 .bf16) (x1 : Vec F S1024x256 .f32) (x2 : Vec F S1x256 .f32) : Vec F S8x3584 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2).1)

/-- Case A's pieces for scratch `arg9`, which the kernel carries between points, cover it: one of them a store of the WHOLE buffer (Lib/Ring.lean `sl_whole_mem`). -/
theorem scover0_A_1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec F S1x512x3584 .bf16) (x1 : Vec F S1024x256 .f32) (x2 : Vec F S1x256 .f32) (y : S16x3584.Idx) :
    ∃ pc ∈ (kernelRun0_A c i arg1 harg1 arg2 harg2 arg3 harg3 arg4 harg4 arg5 harg5 arg6 harg6 arg7 harg7 arg8 harg8 arg9 harg9 hc0 hc1 x0 x1 x2).2.1, y ∈ pc.1.set :=
  View.cover_of_wholeMem (kernelRun0_A c i arg1 harg1 arg2 harg2 arg3 harg3 arg4 harg4 arg5 harg5 arg6 harg6 arg7 harg7 arg8 harg8 arg9 harg9 hc0 hc1 x0 x1 x2).2.1 (by sl_whole_mem) y

/-- What case A leaves in scratch `arg9`: its pieces read back over junk. -/
def sout0_A_1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec F S1x512x3584 .bf16) (x1 : Vec F S1024x256 .f32) (x2 : Vec F S1x256 .f32) : Vec F S16x3584 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2).2.1)

/-- Case B stores nothing into scratch `arg8`: it holds what the point before left. -/
def sout0_B_0 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec F S1x512x3584 .bf16) (x1 : Vec F S1024x256 .f32) (x2 : Vec F S1x256 .f32) (xs0 : Vec F S8x3584 .f32) (xs1 : Vec F S16x3584 .bf16) : Vec F S8x3584 .f32 := xs0

/-- Case B's pieces for scratch `arg9`, which the kernel carries between points, cover it: 4 pieces of `S16x896` tiling it (Lib/Ring.lean `Piece.tiledL`). -/
theorem scover0_B_1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec F S1x512x3584 .bf16) (x1 : Vec F S1024x256 .f32) (x2 : Vec F S1x256 .f32) (xs0 : Vec F S8x3584 .f32) (xs1 : Vec F S16x3584 .bf16) (y : S16x3584.Idx) :
    ∃ pc ∈ (kernelRun0_B c i arg1 harg1 arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 xs0 xs1).2.1 S16x896.size (by sl_kernel_rfl) y

/-- What case B leaves in scratch `arg9`: its pieces read back over junk. -/
def sout0_B_1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec F S1x512x3584 .bf16) (x1 : Vec F S1024x256 .f32) (x2 : Vec F S1x256 .f32) (xs0 : Vec F S8x3584 .f32) (xs1 : Vec F S16x3584 .bf16) : Vec F S16x3584 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 xs0 xs1).2.1)

/-- Case C stores nothing into scratch `arg8`: it holds what the point before left. -/
def sout0_C_0 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec F S1x512x3584 .bf16) (x1 : Vec F S1024x256 .f32) (x2 : Vec F S1x256 .f32) (xs0 : Vec F S8x3584 .f32) (xs1 : Vec F S16x3584 .bf16) : Vec F S8x3584 .f32 := xs0

/-- Case C's pieces for scratch `arg9`, which the kernel carries between points, cover it: 4 pieces of `S16x896` tiling it (Lib/Ring.lean `Piece.tiledL`). -/
theorem scover0_C_1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec F S1x512x3584 .bf16) (x1 : Vec F S1024x256 .f32) (x2 : Vec F S1x256 .f32) (xs0 : Vec F S8x3584 .f32) (xs1 : Vec F S16x3584 .bf16) (y : S16x3584.Idx) :
    ∃ pc ∈ (kernelRun0_C c i arg1 harg1 arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 xs0 xs1).2.1 S16x896.size (by sl_kernel_rfl) y

/-- What case C leaves in scratch `arg9`: its pieces read back over junk. -/
def sout0_C_1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec F S1x512x3584 .bf16) (x1 : Vec F S1024x256 .f32) (x2 : Vec F S1x256 .f32) (xs0 : Vec F S8x3584 .f32) (xs1 : Vec F S16x3584 .bf16) : Vec F S16x3584 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 xs0 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x3584 .f32 × Vec F S16x3584 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 94 = 0 then
      if h1 : (n + 1) % 94 = 93 then
        False.elim (by have hN : n + 1 < 94 := lt_of_lt_of_eq hn (show cfg0.N = 94 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 94 = 93 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 94 = 0) (h1 : ¬t.val % 94 = 93) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 94 = 0) (h1 : ¬t.val % 94 = 93) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 94 = 0) (h1 : t.val % 94 = 93) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2)) ∗ (∃ r, prngReg c r)) := by
  cases n with
  | zero => exact absurd rfl hz
  | succ n => rfl

/-! ## The pipeline's proof data -/

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 94 := lt_of_lt_of_eq t.isLt (show cfg0.N = 94 from N_0)
  by_cases h0 : t.val % 94 = 0
  · by_cases h1 : t.val % 94 = 93
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · exfalso; have hN : t.val < 94 := lt_of_lt_of_eq t.isLt (show cfg0.N = 94 from N_0); omega
  · by_cases h1 : t.val % 94 = 93
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · exfalso; have hN : t.val < 94 := lt_of_lt_of_eq t.isLt (show cfg0.N = 94 from N_0); omega
      · rw [PhiS_castSucc m c t, PhiS_pos m c _ _ hz]
        rw [outsAt0_C m c t h0 h1]
        unfold sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) _ _).2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · exfalso; have hN : t.val < 94 := lt_of_lt_of_eq t.isLt (show cfg0.N = 94 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) _ _).2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 94 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame claim's statement for any floats: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Whole

end
-- ==== Proof.KI.Base.lean ====
/- What the kernel's three kinds of grid point share: the branch conditions in closed form over the points, and the
   staging and scratch memrefs the body is run on. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 94 = 0 :=
  (fun t => by
    have ht : t.val < 94 := Nat.lt_of_lt_of_eq t.isLt N_0
    have e0 : (grid0.coords t 0).val = t.val / 1 % 94 := Pipeline.Grid.coords_val t 0 (by decide) rfl
    simp only [cond0_0, k0_cond1, e0]
    word_cmp
   : ∀ t : Fin grid0.N, cond0_0 (grid0.coords t) ↔ t.val % 94 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 94 = 93 :=
  (fun t => by
    have ht : t.val < 94 := Nat.lt_of_lt_of_eq t.isLt N_0
    have e0 : (grid0.coords t 0).val = t.val / 1 % 94 := Pipeline.Grid.coords_val t 0 (by decide) rfl
    simp only [cond0_1, k0_cond2, e0]
    word_cmp
   : ∀ t : Fin grid0.N, cond0_1 (grid0.coords t) ↔ t.val % 94 = 93)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S8x3584 .f32 := Memref.whole cc0_scratch0
abbrev scM0_1 : Memref sig .tc .vmem S16x3584 .bf16 := Memref.whole cc0_scratch1
/-- The scratch `arg8` the kernel carries between points, as a view: what it holds is stated through it. -/
abbrev VS0_0 : View sig .tc .vmem S8x3584 .f32 := scM0_0.view
/-- The scratch `arg9` the kernel carries between points, as a view: what it holds is stated through it. -/
abbrev VS0_1 : View sig .tc .vmem S16x3584 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KI.Chunk.lean ====
/- One of the kernel's four column chunks: what sixteen trips of 32 rows store and carry, for any recursion of the
   shape the four loops share. -/
module

public import proofs.«01_k».proof.Proof.KI.Base
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen

/-- The code of one element: `a * b` clipped to the format's range. -/
def code (a b : EReal) : EReal :=
  min (Ideal.ofBits .f32 0x43E00000#32) (max (Ideal.ofBits .f32 0xC3E00000#32) (a * b))

/-- The codes of a block of 512 rows, under a table of reciprocals whose first row has one entry per column. -/
def codes (X : Vec Ideal S1x512x3584 .bf16) (W : Vec Ideal S8x3584 .f32) : Vec Ideal S1x512x3584 .fp8e4m3 :=
  fun y => code (X y) (W (ix2 0 (y 2)))

/-- The magnitude of an element. -/
def mag (a : EReal) : EReal := max a (-a)

theorem fin1_eq (y : Fin 1) : y = 0 := Subsingleton.elim _ _

/-- One trip's codes, element by element. -/
theorem pay2_apply (v : Vec Ideal S1x896 .f32) (x : Vec Ideal S1x32x896 .bf16) (y : S1x32x896.Idx) :
    k0_pay2 v x y = code (x y) (v (ix2 0 (y 2))) := by
  idx_vars y
  obtain rfl := fin1_eq y0
  pointwise [k0_pay2, k0_pay1, code]

/-- One trip's carried maximum: the old one against the magnitudes of two rows sixteen apart. -/
theorem pay3_apply (a : Vec Ideal S16x896 .bf16) (x : Vec Ideal S1x32x896 .bf16) (s : Fin 16) (c : Fin 896) :
    k0_pay3 a x (ix2 s c) = max (a (ix2 s c)) (max (mag (x (ix3 0 ⟨s.val, by omega⟩ c))) (mag (x (ix3 0 ⟨16 + s.val, by omega⟩ c)))) := by
  pointwise [k0_pay3, k0_pay1, mag]
  rfl

/-- The piece a trip stores at offsets `off`. -/
abbrev piece (off : Fin 3 → ℕ) (h : ∀ a, off a + S1x32x896.size a ≤ S1x512x3584.size a) (w : Vec Ideal S1x32x896 .fp8e4m3) :
    View.Piece (Elt Ideal) S1x512x3584 .fp8e4m3 := ⟨Rect.unit (s := S1x512x3584) off S1x32x896.size h, w⟩

/-- Rows `32 * k` to `32 * k + 31` of a block, columns `o` to `o + 895`. -/
abbrev rows (off : Fin 3 → ℕ) (h : ∀ a, off a + S1x32x896.size a ≤ S1x512x3584.size a) (X : Vec Ideal S1x512x3584 .bf16) : Vec Ideal S1x32x896 .bf16 :=
  fun x => X ((Rect.unit (s := S1x512x3584) off S1x32x896.size h).toLoadRect.idx x)

theorem rows_apply (off : Fin 3 → ℕ) (h) (X : Vec Ideal S1x512x3584 .bf16) (k o : ℕ) (ho : off = ![0, 32 * k, o])
    (r : Fin 32) (c : Fin 896) (hr : 32 * k + r.val < 512) (hc : o + c.val < 3584) :
    rows off h X (ix3 0 r c) = X (ix3 0 ⟨32 * k + r.val, hr⟩ ⟨o + c.val, hc⟩) := by
  subst ho
  refine congrArg X ?_
  pointwise

/-- What a chunk's recursion holds after `n` trips: its pieces are the codes of the rows gone through and cover them, and
    the carried value is bounded by `b` exactly when the initial one and the magnitudes of the rows gone through are. -/
theorem chunk (o : ℕ) (ho : o + 896 ≤ 3584) (X : Vec Ideal S1x512x3584 .bf16) (W : Vec Ideal S8x3584 .f32)
    (v : Vec Ideal S1x896 .f32) (hv : ∀ c : Fin 896, v (ix2 0 c) = W (ix2 0 ⟨o + c.val, by omega⟩))
    (init : Vec Ideal S16x896 .bf16)
    (st : ℕ → Vec Ideal S16x896 .bf16 × List (View.Piece (Elt Ideal) S1x512x3584 .fp8e4m3))
    (off : (k : ℕ) → k < 16 → Fin 3 → ℕ) (hoff : ∀ k hk, off k hk = ![0, 32 * k, o])
    (inb : ∀ k hk, ∀ a, off k hk a + S1x32x896.size a ≤ S1x512x3584.size a)
    (h0 : st 0 = (init, []))
    (hs : ∀ k (hk : k < 16), st (k + 1) = (k0_pay3 (st k).1 (rows (off k hk) (inb k hk) X),
      [piece (off k hk) (inb k hk) (k0_pay2 v (rows (off k hk) (inb k hk) X))] ++ (st k).2)) :
    ∀ n ≤ 16, (∀ p ∈ (st n).2, ∀ x : p.1.shape.Idx, p.2 x = codes X W (p.1.emb x))
      ∧ (∀ y : S1x512x3584.Idx, (y 1).val < 32 * n → o ≤ (y 2).val → (y 2).val < o + 896 → ∃ p ∈ (st n).2, y ∈ p.1.set)
      ∧ (∀ (s : Fin 16) (c : Fin 896) (b : EReal), (st n).1 (ix2 s c) ≤ b ↔ init (ix2 s c) ≤ b
          ∧ ∀ r : Fin 512, r.val < 32 * n → r.val % 16 = s.val → mag (X (ix3 0 r ⟨o + c.val, by omega⟩)) ≤ b) := by
  intro n
  induction n with
  | zero =>
    intro _
    rw [h0]
    refine ⟨fun p hp => absurd hp List.not_mem_nil, fun y hy => absurd hy (by omega), fun s c b => ?_⟩
    simp
  | succ k ih =>
    intro hk
    have hk' : k < 16 := by omega
    obtain ⟨i1, i2, i3⟩ := ih (by omega)
    rw [hs k hk']
    refine ⟨?_, ?_, ?_⟩
    · intro p hp x
      rcases List.mem_append.mp hp with hp | hp
      · obtain rfl := List.mem_singleton.mp hp
        refine (pay2_apply v _ x).trans ?_
        revert x
        show ∀ x : S1x32x896.Idx, _
        intro x
        idx_vars x
        obtain rfl := fin1_eq x0
        have e : (Rect.unit (s := S1x512x3584) (off k hk') S1x32x896.size (inb k hk')).emb (ix3 0 x1 x2)
            = ix3 0 ⟨32 * k + x1.val, by omega⟩ ⟨o + x2.val, by omega⟩ := by
          revert x1 x2
          generalize inb k hk' = hi
          revert hi
          rw [hoff k hk']
          intro hi x1 x2
          refine Rect.emb_eq_of_coords _ _ _ fun a => ?_
          match a with
          | 0 => rfl
          | 1 => show 32 * k + x1.val = 32 * k + 1 * x1.val; omega
          | 2 => show o + x2.val = o + 1 * x2.val; omega
        refine Eq.trans ?_ (congrArg (codes X W) e).symm
        rw [rows_apply (off k hk') _ X k o (hoff k hk') x1 x2 (by omega) (by omega)]
        exact congrArg (code _) (hv x2)
      · exact i1 p hp x
    · intro y hy h1 h2
      by_cases hlt : (y 1).val < 32 * k
      · obtain ⟨p, hp, hm⟩ := i2 y hlt h1 h2
        exact ⟨p, List.mem_append_right _ hp, hm⟩
      · refine ⟨_, List.mem_append_left _ (List.mem_singleton.mpr rfl), ?_⟩
        refine (Rect.mem_set_unit (inb := inb k hk')).mpr ?_
        rw [hoff k hk']
        intro a
        have y0 : (y 0).val < 1 := (y 0).isLt
        have := (y 1).isLt
        match a with
        | 0 => exact ⟨Nat.zero_le _, by show (y 0).val < 0 + 1; omega⟩
        | 1 => exact ⟨by show 32 * k ≤ (y 1).val; omega, by show (y 1).val < 32 * k + 32; omega⟩
        | 2 => exact ⟨h1, h2⟩
    · intro s c b
      refine Iff.trans (Iff.of_eq (congrArg (fun z : EReal => z ≤ b) (pay3_apply (st k).1 (rows (off k hk') (inb k hk') X) s c))) ?_
      show max _ (max _ _) ≤ b ↔ _
      rw [ max_le_iff, max_le_iff, i3 s c b,
        rows_apply (off k hk') _ X k o (hoff k hk') _ c (by simp only; omega) (by omega),
        rows_apply (off k hk') _ X k o (hoff k hk') _ c (by simp only; omega) (by omega)]
      constructor
      · rintro ⟨⟨ha, hb⟩, hc, hd⟩
        refine ⟨ha, fun r hr hm => ?_⟩
        by_cases hlt : r.val < 32 * k
        · exact hb r hlt hm
        · by_cases h16 : r.val < 32 * k + 16
          · have : r = ⟨32 * k + s.val, by omega⟩ := Fin.ext (by simp only; omega)
            rw [this]; exact hc
          · have : r = ⟨32 * k + (16 + s.val), by omega⟩ := Fin.ext (by simp only; omega)
            rw [this]; exact hd
      · rintro ⟨ha, hb⟩
        exact ⟨⟨ha, fun r hr hm => hb r (by omega) hm⟩, hb _ (by simp only; omega) (by simp only; omega),
          hb _ (by simp only; omega) (by simp only; omega)⟩

end Cert.KernelIdeal.Val

end
-- ==== Proof.KI.Chunks.lean ====
/- The four column chunks: each generated loop is an instance of the one recursion. -/
module

public import proofs.«01_k».proof.Proof.KI.Chunk

@[expose] public section

set_option maxRecDepth 16384

noncomputable section

namespace Cert.KernelIdeal.Val

open Idealize.ShloMosaic Idealize.ShloMosaic.TcCoe Idealize.SL.Sem
open Cert.KernelIdeal Cert.KernelIdeal.Gen

variable (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole)

/-- What a chunk at columns `o` to `o + 895` leaves, its trips done: `L` the pieces stored, `a` the value carried. -/
structure ChunkOf (o : ℕ) (ho : o + 896 ≤ 3584) (X : Vec Ideal S1x512x3584 .bf16) (W : Vec Ideal S8x3584 .f32)
    (init a : Vec Ideal S16x896 .bf16) (L : List (View.Piece (Elt Ideal) S1x512x3584 .fp8e4m3)) : Prop where
  agree : ∀ p ∈ L, ∀ x : p.1.shape.Idx, p.2 x = codes X W (p.1.emb x)
  cover : ∀ y : S1x512x3584.Idx, o ≤ (y 2).val → (y 2).val < o + 896 → ∃ p ∈ L, y ∈ p.1.set
  bound : ∀ (s : Fin 16) (c : Fin 896) (b : EReal), a (ix2 s c) ≤ b ↔ init (ix2 s c) ≤ b
    ∧ ∀ r : Fin 512, r.val % 16 = s.val → mag (X (ix3 0 r ⟨o + c.val, by omega⟩)) ≤ b

/-- The chunk of columns 0 to 895. -/
theorem chunk1 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole)
    (X : Vec Ideal S1x512x3584 .bf16) (W : Vec Ideal S8x3584 .f32) (v : Vec Ideal S1x896 .f32)
    (hv : ∀ c : Fin 896, v (ix2 0 c) = W (ix2 0 ⟨0 + c.val, by omega⟩)) (init : Vec Ideal S16x896 .bf16) :
    ChunkOf 0 (by omega) X W init
      (st_k0_t1 (F := Ideal) Variants.none c none i arg1 harg1 arg2 harg2 arg3 harg3 arg4 harg4 arg5 harg5 arg6 harg6 arg7 harg7 arg8 harg8 arg9 harg9 v (harg1.unread X) init (Scf.trips k0_t1_loop.lb k0_t1_loop.ub k0_t1_loop.st)).1
      (st_k0_t1 (F := Ideal) Variants.none c none i arg1 harg1 arg2 harg2 arg3 harg3 arg4 harg4 arg5 harg5 arg6 harg6 arg7 harg7 arg8 harg8 arg9 harg9 v (harg1.unread X) init (Scf.trips k0_t1_loop.lb k0_t1_loop.ub k0_t1_loop.st)).2 := by
  have ht : Scf.trips k0_t1_loop.lb k0_t1_loop.ub k0_t1_loop.st = 16 := by decide +kernel
  have hoff : ∀ k (hk : k < 16), k0_off1 ⟨k, by rw [show k0_t1_loop.trips = 16 from ht]; exact hk⟩ = ![0, 32 * k, 0] :=
    fun k hk => k0_off1_eq ⟨k, _⟩
  have hr : ∀ R : LoadRect S1x512x3584, View.readAt (Elt Ideal) arg1.view R (harg1.unread X) = fun x => X (R.idx x) :=
    fun R => funext fun x => harg1.readAt_unread X R x
  have key := chunk 0 (by omega) X W v hv init
    (fun k => st_k0_t1 (F := Ideal) Variants.none c none i arg1 harg1 arg2 harg2 arg3 harg3 arg4 harg4 arg5 harg5 arg6 harg6 arg7 harg7 arg8 harg8 arg9 harg9 v (harg1.unread X) init k)
    (fun k hk => k0_off1 ⟨k, by rw [show k0_t1_loop.trips = 16 from ht]; exact hk⟩)
    hoff
    (fun k hk => k0_off1_inb _) rfl
    (fun k hk => by
      have e := st_k0_t1_succ (F := Ideal) Variants.none c none i arg1 harg1 arg2 harg2 arg3 harg3 arg4 harg4 arg5 harg5 arg6 harg6 arg7 harg7 arg8 harg8 arg9 harg9 v (harg1.unread X) init ⟨k, by rw [show k0_t1_loop.trips = 16 from ht]; exact hk⟩
      refine e.trans ?_
      unfold tripR_k0_t1 tripL_k0_t1 trip_k0_t1
      exact congrArg₂ Prod.mk (congrArg (k0_pay3 _) (hr _)) (congrArg (fun w => [piece _ _ (k0_pay2 v w)] ++ _) (hr _))) 16 (le_refl _)
  rw [ht]
  exact ⟨key.1, fun y h1 h2 => key.2.1 y (y 1).isLt h1 h2, fun s c b => (key.2.2 s c b).trans
    (and_congr Iff.rfl ⟨fun h r hr => h r r.isLt hr, fun h r _ hr => h r hr⟩)⟩

/-- The chunk of columns 896 to 1791. -/
theorem chunk2 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole)
    (X : Vec Ideal S1x512x3584 .bf16) (W : Vec Ideal S8x3584 .f32) (v : Vec Ideal S1x896 .f32)
    (hv : ∀ c : Fin 896, v (ix2 0 c) = W (ix2 0 ⟨896 + c.val, by omega⟩)) (init : Vec Ideal S16x896 .bf16) :
    ChunkOf 896 (by omega) X W init
      (st_k0_t2 (F := Ideal) Variants.none c none i arg1 harg1 arg2 harg2 arg3 harg3 arg4 harg4 arg5 harg5 arg6 harg6 arg7 harg7 arg8 harg8 arg9 harg9 v (harg1.unread X) init (Scf.trips k0_t2_loop.lb k0_t2_loop.ub k0_t2_loop.st)).1
      (st_k0_t2 (F := Ideal) Variants.none c none i arg1 harg1 arg2 harg2 arg3 harg3 arg4 harg4 arg5 harg5 arg6 harg6 arg7 harg7 arg8 harg8 arg9 harg9 v (harg1.unread X) init (Scf.trips k0_t2_loop.lb k0_t2_loop.ub k0_t2_loop.st)).2 := by
  have ht : Scf.trips k0_t2_loop.lb k0_t2_loop.ub k0_t2_loop.st = 16 := by decide +kernel
  have hoff : ∀ k (hk : k < 16), k0_off2 ⟨k, by rw [show k0_t2_loop.trips = 16 from ht]; exact hk⟩ = ![0, 32 * k, 896] :=
    fun k hk => k0_off2_eq ⟨k, _⟩
  have hr : ∀ R : LoadRect S1x512x3584, View.readAt (Elt Ideal) arg1.view R (harg1.unread X) = fun x => X (R.idx x) :=
    fun R => funext fun x => harg1.readAt_unread X R x
  have key := chunk 896 (by omega) X W v hv init
    (fun k => st_k0_t2 (F := Ideal) Variants.none c none i arg1 harg1 arg2 harg2 arg3 harg3 arg4 harg4 arg5 harg5 arg6 harg6 arg7 harg7 arg8 harg8 arg9 harg9 v (harg1.unread X) init k)
    (fun k hk => k0_off2 ⟨k, by rw [show k0_t2_loop.trips = 16 from ht]; exact hk⟩)
    hoff
    (fun k hk => k0_off2_inb _) rfl
    (fun k hk => by
      have e := st_k0_t2_succ (F := Ideal) Variants.none c none i arg1 harg1 arg2 harg2 arg3 harg3 arg4 harg4 arg5 harg5 arg6 harg6 arg7 harg7 arg8 harg8 arg9 harg9 v (harg1.unread X) init ⟨k, by rw [show k0_t2_loop.trips = 16 from ht]; exact hk⟩
      refine e.trans ?_
      unfold tripR_k0_t2 tripL_k0_t2 trip_k0_t2
      exact congrArg₂ Prod.mk (congrArg (k0_pay3 _) (hr _)) (congrArg (fun w => [piece _ _ (k0_pay2 v w)] ++ _) (hr _))) 16 (le_refl _)
  rw [ht]
  exact ⟨key.1, fun y h1 h2 => key.2.1 y (y 1).isLt h1 h2, fun s c b => (key.2.2 s c b).trans
    (and_congr Iff.rfl ⟨fun h r hr => h r r.isLt hr, fun h r _ hr => h r hr⟩)⟩

/-- The chunk of columns 1792 to 2687. -/
theorem chunk3 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole)
    (X : Vec Ideal S1x512x3584 .bf16) (W : Vec Ideal S8x3584 .f32) (v : Vec Ideal S1x896 .f32)
    (hv : ∀ c : Fin 896, v (ix2 0 c) = W (ix2 0 ⟨1792 + c.val, by omega⟩)) (init : Vec Ideal S16x896 .bf16) :
    ChunkOf 1792 (by omega) X W init
      (st_k0_t3 (F := Ideal) Variants.none c none i arg1 harg1 arg2 harg2 arg3 harg3 arg4 harg4 arg5 harg5 arg6 harg6 arg7 harg7 arg8 harg8 arg9 harg9 v (harg1.unread X) init (Scf.trips k0_t3_loop.lb k0_t3_loop.ub k0_t3_loop.st)).1
      (st_k0_t3 (F := Ideal) Variants.none c none i arg1 harg1 arg2 harg2 arg3 harg3 arg4 harg4 arg5 harg5 arg6 harg6 arg7 harg7 arg8 harg8 arg9 harg9 v (harg1.unread X) init (Scf.trips k0_t3_loop.lb k0_t3_loop.ub k0_t3_loop.st)).2 := by
  have ht : Scf.trips k0_t3_loop.lb k0_t3_loop.ub k0_t3_loop.st = 16 := by decide +kernel
  have hoff : ∀ k (hk : k < 16), k0_off3 ⟨k, by rw [show k0_t3_loop.trips = 16 from ht]; exact hk⟩ = ![0, 32 * k, 1792] :=
    fun k hk => k0_off3_eq ⟨k, _⟩
  have hr : ∀ R : LoadRect S1x512x3584, View.readAt (Elt Ideal) arg1.view R (harg1.unread X) = fun x => X (R.idx x) :=
    fun R => funext fun x => harg1.readAt_unread X R x
  have key := chunk 1792 (by omega) X W v hv init
    (fun k => st_k0_t3 (F := Ideal) Variants.none c none i arg1 harg1 arg2 harg2 arg3 harg3 arg4 harg4 arg5 harg5 arg6 harg6 arg7 harg7 arg8 harg8 arg9 harg9 v (harg1.unread X) init k)
    (fun k hk => k0_off3 ⟨k, by rw [show k0_t3_loop.trips = 16 from ht]; exact hk⟩)
    hoff
    (fun k hk => k0_off3_inb _) rfl
    (fun k hk => by
      have e := st_k0_t3_succ (F := Ideal) Variants.none c none i arg1 harg1 arg2 harg2 arg3 harg3 arg4 harg4 arg5 harg5 arg6 harg6 arg7 harg7 arg8 harg8 arg9 harg9 v (harg1.unread X) init ⟨k, by rw [show k0_t3_loop.trips = 16 from ht]; exact hk⟩
      refine e.trans ?_
      unfold tripR_k0_t3 tripL_k0_t3 trip_k0_t3
      exact congrArg₂ Prod.mk (congrArg (k0_pay3 _) (hr _)) (congrArg (fun w => [piece _ _ (k0_pay2 v w)] ++ _) (hr _))) 16 (le_refl _)
  rw [ht]
  exact ⟨key.1, fun y h1 h2 => key.2.1 y (y 1).isLt h1 h2, fun s c b => (key.2.2 s c b).trans
    (and_congr Iff.rfl ⟨fun h r hr => h r r.isLt hr, fun h r _ hr => h r hr⟩)⟩

/-- The chunk of columns 2688 to 3583. -/
theorem chunk4 (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole)
    (X : Vec Ideal S1x512x3584 .bf16) (W : Vec Ideal S8x3584 .f32) (v : Vec Ideal S1x896 .f32)
    (hv : ∀ c : Fin 896, v (ix2 0 c) = W (ix2 0 ⟨2688 + c.val, by omega⟩)) (init : Vec Ideal S16x896 .bf16) :
    ChunkOf 2688 (by omega) X W init
      (st_k0_t4 (F := Ideal) Variants.none c none i arg1 harg1 arg2 harg2 arg3 harg3 arg4 harg4 arg5 harg5 arg6 harg6 arg7 harg7 arg8 harg8 arg9 harg9 v (harg1.unread X) init (Scf.trips k0_t4_loop.lb k0_t4_loop.ub k0_t4_loop.st)).1
      (st_k0_t4 (F := Ideal) Variants.none c none i arg1 harg1 arg2 harg2 arg3 harg3 arg4 harg4 arg5 harg5 arg6 harg6 arg7 harg7 arg8 harg8 arg9 harg9 v (harg1.unread X) init (Scf.trips k0_t4_loop.lb k0_t4_loop.ub k0_t4_loop.st)).2 := by
  have ht : Scf.trips k0_t4_loop.lb k0_t4_loop.ub k0_t4_loop.st = 16 := by decide +kernel
  have hoff : ∀ k (hk : k < 16), k0_off4 ⟨k, by rw [show k0_t4_loop.trips = 16 from ht]; exact hk⟩ = ![0, 32 * k, 2688] :=
    fun k hk => k0_off4_eq ⟨k, _⟩
  have hr : ∀ R : LoadRect S1x512x3584, View.readAt (Elt Ideal) arg1.view R (harg1.unread X) = fun x => X (R.idx x) :=
    fun R => funext fun x => harg1.readAt_unread X R x
  have key := chunk 2688 (by omega) X W v hv init
    (fun k => st_k0_t4 (F := Ideal) Variants.none c none i arg1 harg1 arg2 harg2 arg3 harg3 arg4 harg4 arg5 harg5 arg6 harg6 arg7 harg7 arg8 harg8 arg9 harg9 v (harg1.unread X) init k)
    (fun k hk => k0_off4 ⟨k, by rw [show k0_t4_loop.trips = 16 from ht]; exact hk⟩)
    hoff
    (fun k hk => k0_off4_inb _) rfl
    (fun k hk => by
      have e := st_k0_t4_succ (F := Ideal) Variants.none c none i arg1 harg1 arg2 harg2 arg3 harg3 arg4 harg4 arg5 harg5 arg6 harg6 arg7 harg7 arg8 harg8 arg9 harg9 v (harg1.unread X) init ⟨k, by rw [show k0_t4_loop.trips = 16 from ht]; exact hk⟩
      refine e.trans ?_
      unfold tripR_k0_t4 tripL_k0_t4 trip_k0_t4
      exact congrArg₂ Prod.mk (congrArg (k0_pay3 _) (hr _)) (congrArg (fun w => [piece _ _ (k0_pay2 v w)] ++ _) (hr _))) 16 (le_refl _)
  rw [ht]
  exact ⟨key.1, fun y h1 h2 => key.2.1 y (y 1).isLt h1 h2, fun s c b => (key.2.2 s c b).trans
    (and_congr Iff.rfl ⟨fun h r hr => h r r.isLt hr, fun h r _ hr => h r hr⟩)⟩

end Cert.KernelIdeal.Val

end
-- ==== Proof.KI.Whole.lean ====
/- What the four chunks of a grid point store, read back as whole blocks: the codes of the block, and the maximum carried
   for each residue of rows and each column. -/
module

public import proofs.«01_k».proof.Proof.KI.Chunks

@[expose] public section

set_option maxRecDepth 16384

noncomputable section

namespace Cert.KernelIdeal.Val

open Idealize.ShloMosaic Idealize.ShloMosaic.TcCoe Idealize.SL.Sem
open Cert.KernelIdeal Cert.KernelIdeal.Gen

/-- The maximum carried after one block: the old one against the magnitudes of the rows with the residue, column by column. -/
def colmax (X : Vec Ideal S1x512x3584 .bf16) (P : Vec Ideal S16x3584 .bf16) : Vec Ideal S16x3584 .bf16 :=
  fun y => max (α := EReal) (P y) (Finset.univ.sup fun r : Fin 512 => if r.val % 16 = (y 0).val then mag (X (ix3 0 r (y 1))) else ⊥)

/-- What bounds the carried maximum. -/
theorem colmax_le (X : Vec Ideal S1x512x3584 .bf16) (P : Vec Ideal S16x3584 .bf16) (s : Fin 16) (c : Fin 3584) (b : EReal) :
    colmax X P (ix2 s c) ≤ b ↔ P (ix2 s c) ≤ b ∧ ∀ r : Fin 512, r.val % 16 = s.val → mag (X (ix3 0 r c)) ≤ b := by
  show max (α := EReal) (P (ix2 s c)) (Finset.univ.sup fun r : Fin 512 => if r.val % 16 = s.val then mag (X (ix3 0 r c)) else ⊥) ≤ b ↔ _
  rw [max_le_iff, Finset.sup_le_iff]
  refine and_congr Iff.rfl ⟨fun h r hr => ?_, fun h r _ => ?_⟩
  · have := h r (Finset.mem_univ r)
    rwa [if_pos hr] at this
  · split_ifs with hr
    · exact h r hr
    · exact bot_le

/-- Column `c` of the chunk that starts at column `o`. -/
abbrev col (o : ℕ) (ho : o + 896 ≤ 3584) (c : Fin 896) : Fin 3584 := ⟨o + c.val, by omega⟩

/-- A chunk's carried value, against the whole block's. -/
theorem ChunkOf.value {o : ℕ} {ho : o + 896 ≤ 3584} {X : Vec Ideal S1x512x3584 .bf16} {W : Vec Ideal S8x3584 .f32}
    {init a : Vec Ideal S16x896 .bf16} {L : List (View.Piece (Elt Ideal) S1x512x3584 .fp8e4m3)} (h : ChunkOf o ho X W init a L)
    (P : Vec Ideal S16x3584 .bf16) (hP : ∀ (s : Fin 16) (c : Fin 896), init (ix2 s c) = P (ix2 s ⟨o + c.val, by omega⟩))
    (s : Fin 16) (c : Fin 896) : a (ix2 s c) = colmax X P (ix2 s ⟨o + c.val, by omega⟩) :=
  eq_of_forall_ge_iff (α := EReal) fun b => by
    rw [h.bound s c b, colmax_le, hP s c]

/-- Columns `o` to `o + 895` of the carried table, as a rectangle. -/
theorem emb16 (o : ℕ) (ho : o + 896 ≤ 3584) (h : ∀ a, (![0, o] : Fin 2 → ℕ) a + S16x896.size a ≤ S16x3584.size a) (s : Fin 16) (c : Fin 896) :
    (Rect.unit (s := S16x3584) ![0, o] S16x896.size h).emb (ix2 s c) = ix2 s ⟨o + c.val, by omega⟩ := by
  refine Rect.emb_eq_of_coords _ _ _ fun a => ?_
  match a with
  | 0 => show s.val = 0 + 1 * s.val; omega
  | 1 => show o + c.val = o + 1 * c.val; omega

/-- The piece a chunk's carried value is stored as. -/
abbrev piece16 (o : ℕ) (h : ∀ a, (![0, o] : Fin 2 → ℕ) a + S16x896.size a ≤ S16x3584.size a) (w : Vec Ideal S16x896 .bf16) :
    View.Piece (Elt Ideal) S16x3584 .bf16 := ⟨Rect.unit (s := S16x3584) ![0, o] S16x896.size h, w⟩

theorem mem_piece16 (o : ℕ) (h) (w) (y : S16x3584.Idx) (h1 : o ≤ (y 1).val) (h2 : (y 1).val < o + 896) : y ∈ (piece16 o h w).1.set := by
  refine (Rect.mem_set_unit (inb := h)).mpr fun a => ?_
  match a with
  | 0 => exact ⟨Nat.zero_le _, by show (y 0).val < 0 + 16; have := (y 0).isLt; have e : S16x3584.size 0 = 16 := rfl; omega⟩
  | 1 => exact ⟨h1, h2⟩

section

variable {ho1 : 0 + 896 ≤ 3584} {ho2 : 896 + 896 ≤ 3584} {ho3 : 1792 + 896 ≤ 3584} {ho4 : 2688 + 896 ≤ 3584} {X : Vec Ideal S1x512x3584 .bf16} {W : Vec Ideal S8x3584 .f32}
  {i1 i2 i3 i4 a1 a2 a3 a4 : Vec Ideal S16x896 .bf16} {L1 L2 L3 L4 : List (View.Piece (Elt Ideal) S1x512x3584 .fp8e4m3)}
  (c1 : ChunkOf 0 ho1 X W i1 a1 L1) (c2 : ChunkOf 896 ho2 X W i2 a2 L2)
  (c3 : ChunkOf 1792 ho3 X W i3 a3 L3) (c4 : ChunkOf 2688 ho4 X W i4 a4 L4)

include c1 c2 c3 c4

/-- The four chunks' stores make the block of codes, whatever the buffer held. -/
theorem read_codes {κ : Kind} {sp : Space} (v : View sig κ sp S1x512x3584 .fp8e4m3) (f : v.ty.Contents (Elt Ideal)) :
    v.read (Elt Ideal) (v.writes (Elt Ideal) f (L4 ++ (L3 ++ (L2 ++ L1)))) = codes X W := by
  funext y
  refine View.read_writes_apply_of_pieces v f (codes X W) _ ?_ y ?_
  · intro p hp
    rcases List.mem_append.mp hp with h | hp
    · exact c4.agree p h
    rcases List.mem_append.mp hp with h | hp
    · exact c3.agree p h
    rcases List.mem_append.mp hp with h | hp
    · exact c2.agree p h
    · exact c1.agree p hp
  · have hy : (y 2).val < 3584 := (y 2).isLt
    rcases Nat.lt_or_ge (y 2).val 896 with h | h
    · obtain ⟨p, hp, hm⟩ := c1.cover y (by omega) (by omega)
      exact ⟨p, by simp [hp], hm⟩
    rcases Nat.lt_or_ge (y 2).val 1792 with h' | h'
    · obtain ⟨p, hp, hm⟩ := c2.cover y (by omega) (by omega)
      exact ⟨p, by simp [hp], hm⟩
    rcases Nat.lt_or_ge (y 2).val 2688 with h'' | h''
    · obtain ⟨p, hp, hm⟩ := c3.cover y (by omega) (by omega)
      exact ⟨p, by simp [hp], hm⟩
    · obtain ⟨p, hp, hm⟩ := c4.cover y (by omega) (by omega)
      exact ⟨p, by simp [hp], hm⟩

/-- The four chunks' carried values make the whole table, whatever the buffer held. -/
theorem read_colmax {κ : Kind} {sp : Space} (v : View sig κ sp S16x3584 .bf16) (f : v.ty.Contents (Elt Ideal)) (P : Vec Ideal S16x3584 .bf16)
    (h1 : ∀ (s : Fin 16) (c : Fin 896), i1 (ix2 s c) = P (ix2 s (col 0 ho1 c)))
    (h2 : ∀ (s : Fin 16) (c : Fin 896), i2 (ix2 s c) = P (ix2 s (col 896 ho2 c)))
    (h3 : ∀ (s : Fin 16) (c : Fin 896), i3 (ix2 s c) = P (ix2 s (col 1792 ho3 c)))
    (h4 : ∀ (s : Fin 16) (c : Fin 896), i4 (ix2 s c) = P (ix2 s (col 2688 ho4 c))) (q1 q2 q3 q4) :
    v.read (Elt Ideal) (v.writes (Elt Ideal) f [piece16 2688 q4 a4, piece16 1792 q3 a3, piece16 896 q2 a2, piece16 0 q1 a1]) = colmax X P := by
  funext y
  refine View.read_writes_apply_of_pieces v f (colmax X P) _ ?_ y ?_
  · have key : ∀ (o : ℕ) (ho : o + 896 ≤ 3584) (q) (a : Vec Ideal S16x896 .bf16),
        (∀ (s : Fin 16) (c : Fin 896), a (ix2 s c) = colmax X P (ix2 s (col o ho c))) →
        ∀ x : S16x896.Idx, a x = colmax X P ((piece16 o q a).1.emb x) := fun o ho q a h x => by
      idx_vars x
      exact (h x0 x1).trans (congrArg (colmax X P) (emb16 o ho q x0 x1).symm)
    intro p hp
    simp only [List.mem_cons, List.not_mem_nil, or_false] at hp
    rcases hp with rfl | rfl | rfl | rfl
    · exact key _ (by omega) q4 a4 (c4.value P h4)
    · exact key _ (by omega) q3 a3 (c3.value P h3)
    · exact key _ (by omega) q2 a2 (c2.value P h2)
    · exact key _ (by omega) q1 a1 (c1.value P h1)
  · have hy : (y 1).val < 3584 := (y 1).isLt
    rcases Nat.lt_or_ge (y 1).val 896 with h | h
    · exact ⟨piece16 0 q1 a1, by simp, mem_piece16 _ _ _ _ (by omega) (by omega)⟩
    rcases Nat.lt_or_ge (y 1).val 1792 with h' | h'
    · exact ⟨piece16 896 q2 a2, by simp, mem_piece16 _ _ _ _ (by omega) (by omega)⟩
    rcases Nat.lt_or_ge (y 1).val 2688 with h'' | h''
    · exact ⟨piece16 1792 q3 a3, by simp, mem_piece16 _ _ _ _ (by omega) (by omega)⟩
    · exact ⟨piece16 2688 q4 a4, by simp, mem_piece16 _ _ _ _ (by omega) (by omega)⟩

end

/-- The same table read from payloads that are equal to the chunks' carried values. -/
theorem read_colmax' {ho1 : 0 + 896 ≤ 3584} {ho2 : 896 + 896 ≤ 3584} {ho3 : 1792 + 896 ≤ 3584} {ho4 : 2688 + 896 ≤ 3584} {X : Vec Ideal S1x512x3584 .bf16} {W : Vec Ideal S8x3584 .f32}
    {i1 i2 i3 i4 a1 a2 a3 a4 w1 w2 w3 w4 : Vec Ideal S16x896 .bf16} {L1 L2 L3 L4 : List (View.Piece (Elt Ideal) S1x512x3584 .fp8e4m3)}
    {κ : Kind} {sp : Space} {v : View sig κ sp S16x3584 .bf16} {f : v.ty.Contents (Elt Ideal)} {P : Vec Ideal S16x3584 .bf16} {q1 q2 q3 q4}
    (e1 : w1 = a1) (e2 : w2 = a2) (e3 : w3 = a3) (e4 : w4 = a4)
    (c1 : ChunkOf 0 ho1 X W i1 a1 L1) (c2 : ChunkOf 896 ho2 X W i2 a2 L2)
    (c3 : ChunkOf 1792 ho3 X W i3 a3 L3) (c4 : ChunkOf 2688 ho4 X W i4 a4 L4)
    (h1 : ∀ (s : Fin 16) (c : Fin 896), i1 (ix2 s c) = P (ix2 s (col 0 ho1 c)))
    (h2 : ∀ (s : Fin 16) (c : Fin 896), i2 (ix2 s c) = P (ix2 s (col 896 ho2 c)))
    (h3 : ∀ (s : Fin 16) (c : Fin 896), i3 (ix2 s c) = P (ix2 s (col 1792 ho3 c)))
    (h4 : ∀ (s : Fin 16) (c : Fin 896), i4 (ix2 s c) = P (ix2 s (col 2688 ho4 c))) :
    v.read (Elt Ideal) (v.writes (Elt Ideal) f [piece16 2688 q4 w4, piece16 1792 q3 w3, piece16 896 q2 w2, piece16 0 q1 w1]) = colmax X P := by
  subst e1 e2 e3 e4
  exact read_colmax c1 c2 c3 c4 v f P h1 h2 h3 h4 q1 q2 q3 q4

end Cert.KernelIdeal.Val
-- ==== Proof.KI.RunA.lean ====
/- The kernel body run once at a first grid point. -/
module

public import proofs.«01_k».proof.Proof.KI.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at the first grid point: what its stores leave in each buffer it writes, as pieces (last first), with the proof
    that the body runs from the inputs at their contents to those pieces written, the buffers it does not write
    handed back at what they held. -/
noncomputable def kernelRun_A (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec F S1x512x3584 .bf16) (x1 : Vec F S1024x256 .f32) (x2 : Vec F S1x256 .f32) :
    Σ' (L3 : List (View.Piece (Elt F) S1x512x3584 .fp8e4m3)), Σ' (L6 : List (View.Piece (Elt F) S1x256 .f32)), Σ' (LS0 : List (View.Piece (Elt F) S8x3584 .f32)), { LS1 : List (View.Piece (Elt F) S16x3584 .bf16) //
      ∀ (y4 : Vec F S1x256 .f32) (y5 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y4 ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare y4 ∗ owns (c : Thread nD τ) arg6 fullShare y5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_delayed_scaling_fp8_step i arg1 harg1 arg2 harg2 arg3 harg3 arg4 harg4 arg5 harg5 arg6 harg6 arg7 harg7 arg8 harg8 arg9 harg9) K } := by
  refine ⟨?_, ?_, ?_, ?_, fun y4 y5 E K => ?run⟩
  case run =>
    simp only [cc0_delayed_scaling_fp8_step_eq_skeleton]; unfold cc0_delayed_scaling_fp8_step_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg5.eq_unread hf4; obtain rfl := harg6.eq_unread hf5; obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.Gen

end
-- ==== Proof.KI.RunB.lean ====
/- The kernel body run once at a middle grid point. -/
module

public import proofs.«01_k».proof.Proof.KI.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at a middle grid point: what its stores leave in each buffer it writes, as pieces (last first), with the proof
    that the body runs from the inputs at their contents to those pieces written, the buffers it does not write
    handed back at what they held. -/
noncomputable def kernelRun_B (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec F S1x512x3584 .bf16) (x1 : Vec F S1024x256 .f32) (x2 : Vec F S1x256 .f32) (xs0 : Vec F S8x3584 .f32) (xs1 : Vec F S16x3584 .bf16) :
    Σ' (L3 : List (View.Piece (Elt F) S1x512x3584 .fp8e4m3)),  { LS1 : List (View.Piece (Elt F) S16x3584 .bf16) //
      ∀ (y4 : Vec F S1x256 .f32) (y5 : Vec F S1x256 .f32) (y6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y4 ∗ owns (c : Thread nD τ) arg6 fullShare y5 ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare y4 ∗ owns (c : Thread nD τ) arg6 fullShare y5 ∗ owns (c : Thread nD τ) arg7 fullShare y6 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_delayed_scaling_fp8_step i arg1 harg1 arg2 harg2 arg3 harg3 arg4 harg4 arg5 harg5 arg6 harg6 arg7 harg7 arg8 harg8 arg9 harg9) K } := by
  refine ⟨?_, ?_, fun y4 y5 y6 E K => ?run⟩
  case run =>
    simp only [cc0_delayed_scaling_fp8_step_eq_skeleton]; unfold cc0_delayed_scaling_fp8_step_skel
    simp only [k0_part27_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg5.eq_unread hf4; obtain rfl := harg6.eq_unread hf5; obtain rfl := harg7.eq_unread hf6; obtain rfl := harg1.eq_unread hf0; obtain rfl := harg2.eq_unread hf1; obtain rfl := harg3.eq_unread hf2; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexists _; iexact HS1

end Cert.KernelIdeal.Gen

end
-- ==== Proof.KI.RunC.lean ====
/- The kernel body run once at a last grid point. -/
module

public import proofs.«01_k».proof.Proof.KI.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at the last grid point: what its stores leave in each buffer it writes, as pieces (last first), with the proof
    that the body runs from the inputs at their contents to those pieces written, the buffers it does not write
    handed back at what they held. -/
noncomputable def kernelRun_C (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec F S1x512x3584 .bf16) (x1 : Vec F S1024x256 .f32) (x2 : Vec F S1x256 .f32) (xs0 : Vec F S8x3584 .f32) (xs1 : Vec F S16x3584 .bf16) :
    Σ' (L3 : List (View.Piece (Elt F) S1x512x3584 .fp8e4m3)), Σ' (L4 : List (View.Piece (Elt F) S1x256 .f32)), Σ' (L5 : List (View.Piece (Elt F) S1x256 .f32)),  { LS1 : List (View.Piece (Elt F) S16x3584 .bf16) //
      ∀ (y6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare y6 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_delayed_scaling_fp8_step i arg1 harg1 arg2 harg2 arg3 harg3 arg4 harg4 arg5 harg5 arg6 harg6 arg7 harg7 arg8 harg8 arg9 harg9) K } := by
  refine ⟨?_, ?_, ?_, ?_, fun y6 E K => ?run⟩
  case run =>
    simp only [cc0_delayed_scaling_fp8_step_eq_skeleton]; unfold cc0_delayed_scaling_fp8_step_skel
    simp only [k0_part27_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%fs0, %hfs0, HS0⟩, ⟨%fs1, %hfs1, HS1⟩, Hk⟩
    obtain rfl := harg7.eq_unread hf6; obtain rfl := harg1.eq_unread hf0; obtain rfl := harg2.eq_unread hf1; obtain rfl := harg3.eq_unread hf2; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]
    · iexists _; isplitr; · ipureintro; exact harg7.read_unread _
      iexact H6
    isplitl [HS0]
    · iexists _; isplitr; · ipureintro; exact harg8.read_unread _
      iexact HS0
    iexists _; iexact HS1

end Cert.KernelIdeal.Gen

end
-- ==== Proof.KI.CasesBC.lean ====
/- A middle or last grid point's stores, read back: the block's codes and the maxima carried on. -/
module

public import proofs.«01_k».proof.Proof.KI.Whole
public import proofs.«01_k».proof.Proof.KI.RunC

@[expose] public section

set_option maxRecDepth 16384

noncomputable section

namespace Cert.KernelIdeal.Val

open Idealize.ShloMosaic Idealize.ShloMosaic.TcCoe Idealize.SL.Sem
open Cert.KernelIdeal Cert.KernelIdeal.Gen

/-- Columns `o` to `o + 895` of the first row of the table of reciprocals, as a load's rectangle. -/
theorem idx8 (o : ℕ) (ho : o + 896 ≤ 3584) (h : ∀ a, (![0, o] : Fin 2 → ℕ) a + S1x896.size a ≤ S8x3584.size a) (c : Fin 896) :
    (Rect.unit (s := S8x3584) ![0, o] S1x896.size h).toLoadRect.idx (ix2 0 c) = ix2 0 ⟨o + c.val, by omega⟩ := by
  refine Rect.emb_eq_of_coords _ _ _ fun a => ?_
  match a with
  | 0 => rfl
  | 1 => show o + c.val = o + 1 * c.val; omega

/-- A chunk's load of the table of reciprocals. -/
theorem row8 (m : Memref sig .tc .vmem S8x3584 .f32) (hm : m.IsWhole) (W : Vec Ideal S8x3584 .f32) (o : ℕ) (ho : o + 896 ≤ 3584)
    (h : ∀ a, (![0, o] : Fin 2 → ℕ) a + S1x896.size a ≤ S8x3584.size a) (c : Fin 896) :
    View.readAt (Elt Ideal) m.view (Rect.unit (s := S8x3584) ![0, o] S1x896.size h).toLoadRect (hm.unread W) (ix2 0 c)
      = W (ix2 0 ⟨o + c.val, by omega⟩) :=
  (hm.readAt_unread W _ _).trans (congrArg W (idx8 o ho h c))

/-- A chunk's load of the table of maxima. -/
theorem rows16 (m : Memref sig .tc .vmem S16x3584 .bf16) (hm : m.IsWhole) (P : Vec Ideal S16x3584 .bf16) (o : ℕ) (ho : o + 896 ≤ 3584)
    (h : ∀ a, (![0, o] : Fin 2 → ℕ) a + S16x896.size a ≤ S16x3584.size a) (s : Fin 16) (c : Fin 896) :
    View.readAt (Elt Ideal) m.view (Rect.unit (s := S16x3584) ![0, o] S16x896.size h).toLoadRect (hm.unread P) (ix2 s c)
      = P (ix2 s ⟨o + c.val, by omega⟩) :=
  (hm.readAt_unread P _ _).trans (congrArg P (emb16 o ho h s c))

theorem pay4_eq (w : Vec Ideal S16x896 .bf16) : k0_pay4 w = w := shapeCast_self _ _
theorem pay116_eq (w : Vec Ideal S16x896 .bf16) : k0_pay116 w = w := shapeCast_self _ _
theorem pay120_eq (w : Vec Ideal S16x896 .bf16) : k0_pay120 w = w := shapeCast_self _ _
theorem pay124_eq (w : Vec Ideal S16x896 .bf16) : k0_pay124 w = w := shapeCast_self _ _

/-- A middle point stores the codes of its block. -/
theorem runB_codes (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec Ideal S1x512x3584 .bf16) (x1 : Vec Ideal S1024x256 .f32) (x2 : Vec Ideal S1x256 .f32) (xs0 : Vec Ideal S8x3584 .f32) (xs1 : Vec Ideal S16x3584 .bf16) (f : arg4.view.ty.Contents (Elt Ideal)) :
    arg4.view.read (Elt Ideal) (arg4.view.writes (Elt Ideal) f (kernelRun_B (F := Ideal) c i arg1 harg1 arg2 harg2 arg3 harg3 arg4 harg4 arg5 harg5 arg6 harg6 arg7 harg7 arg8 harg8 arg9 harg9 hc0 hc1 x0 x1 x2 xs0 xs1).1) = codes x0 xs0 := by
  unfold kernelRun_B
  exact read_codes (chunk1 c i arg1 harg1 arg2 harg2 arg3 harg3 arg4 harg4 arg5 harg5 arg6 harg6 arg7 harg7 arg8 harg8 arg9 harg9 x0 xs0 _ (fun k => row8 arg8 harg8 xs0 0 (by omega) _ k) _) (chunk2 c i arg1 harg1 arg2 harg2 arg3 harg3 arg4 harg4 arg5 harg5 arg6 harg6 arg7 harg7 arg8 harg8 arg9 harg9 x0 xs0 _ (fun k => row8 arg8 harg8 xs0 896 (by omega) _ k) _) (chunk3 c i arg1 harg1 arg2 harg2 arg3 harg3 arg4 harg4 arg5 harg5 arg6 harg6 arg7 harg7 arg8 harg8 arg9 harg9 x0 xs0 _ (fun k => row8 arg8 harg8 xs0 1792 (by omega) _ k) _) (chunk4 c i arg1 harg1 arg2 harg2 arg3 harg3 arg4 harg4 arg5 harg5 arg6 harg6 arg7 harg7 arg8 harg8 arg9 harg9 x0 xs0 _ (fun k => row8 arg8 harg8 xs0 2688 (by omega) _ k) _) arg4.view f

/-- A middle point carries the maxima on. -/
theorem runB_colmax (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : ¬cond0_1 i)
    (x0 : Vec Ideal S1x512x3584 .bf16) (x1 : Vec Ideal S1024x256 .f32) (x2 : Vec Ideal S1x256 .f32) (xs0 : Vec Ideal S8x3584 .f32) (xs1 : Vec Ideal S16x3584 .bf16) (f : arg9.view.ty.Contents (Elt Ideal)) :
    arg9.view.read (Elt Ideal) (arg9.view.writes (Elt Ideal) f (kernelRun_B (F := Ideal) c i arg1 harg1 arg2 harg2 arg3 harg3 arg4 harg4 arg5 harg5 arg6 harg6 arg7 harg7 arg8 harg8 arg9 harg9 hc0 hc1 x0 x1 x2 xs0 xs1).2.1) = colmax x0 xs1 := by
  unfold kernelRun_B
  exact read_colmax' (pay116_eq _) (pay120_eq _) (pay124_eq _) (pay4_eq _) (chunk1 c i arg1 harg1 arg2 harg2 arg3 harg3 arg4 harg4 arg5 harg5 arg6 harg6 arg7 harg7 arg8 harg8 arg9 harg9 x0 xs0 _ (fun k => row8 arg8 harg8 xs0 0 (by omega) _ k) _) (chunk2 c i arg1 harg1 arg2 harg2 arg3 harg3 arg4 harg4 arg5 harg5 arg6 harg6 arg7 harg7 arg8 harg8 arg9 harg9 x0 xs0 _ (fun k => row8 arg8 harg8 xs0 896 (by omega) _ k) _) (chunk3 c i arg1 harg1 arg2 harg2 arg3 harg3 arg4 harg4 arg5 harg5 arg6 harg6 arg7 harg7 arg8 harg8 arg9 harg9 x0 xs0 _ (fun k => row8 arg8 harg8 xs0 1792 (by omega) _ k) _) (chunk4 c i arg1 harg1 arg2 harg2 arg3 harg3 arg4 harg4 arg5 harg5 arg6 harg6 arg7 harg7 arg8 harg8 arg9 harg9 x0 xs0 _ (fun k => row8 arg8 harg8 xs0 2688 (by omega) _ k) _)
    (fun s k => rows16 arg9 harg9 xs1 0 (by omega) _ s k) (fun s k => rows16 arg9 harg9 xs1 896 (by omega) _ s k) (fun s k => rows16 arg9 harg9 xs1 1792 (by omega) _ s k) (fun s k => rows16 arg9 harg9 xs1 2688 (by omega) _ s k)

/-- The last point stores the codes of its block. -/
theorem runC_codes (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec Ideal S1x512x3584 .bf16) (x1 : Vec Ideal S1024x256 .f32) (x2 : Vec Ideal S1x256 .f32) (xs0 : Vec Ideal S8x3584 .f32) (xs1 : Vec Ideal S16x3584 .bf16) (f : arg4.view.ty.Contents (Elt Ideal)) :
    arg4.view.read (Elt Ideal) (arg4.view.writes (Elt Ideal) f (kernelRun_C (F := Ideal) c i arg1 harg1 arg2 harg2 arg3 harg3 arg4 harg4 arg5 harg5 arg6 harg6 arg7 harg7 arg8 harg8 arg9 harg9 hc0 hc1 x0 x1 x2 xs0 xs1).1) = codes x0 xs0 := by
  unfold kernelRun_C
  exact read_codes (chunk1 c i arg1 harg1 arg2 harg2 arg3 harg3 arg4 harg4 arg5 harg5 arg6 harg6 arg7 harg7 arg8 harg8 arg9 harg9 x0 xs0 _ (fun k => row8 arg8 harg8 xs0 0 (by omega) _ k) _) (chunk2 c i arg1 harg1 arg2 harg2 arg3 harg3 arg4 harg4 arg5 harg5 arg6 harg6 arg7 harg7 arg8 harg8 arg9 harg9 x0 xs0 _ (fun k => row8 arg8 harg8 xs0 896 (by omega) _ k) _) (chunk3 c i arg1 harg1 arg2 harg2 arg3 harg3 arg4 harg4 arg5 harg5 arg6 harg6 arg7 harg7 arg8 harg8 arg9 harg9 x0 xs0 _ (fun k => row8 arg8 harg8 xs0 1792 (by omega) _ k) _) (chunk4 c i arg1 harg1 arg2 harg2 arg3 harg3 arg4 harg4 arg5 harg5 arg6 harg6 arg7 harg7 arg8 harg8 arg9 harg9 x0 xs0 _ (fun k => row8 arg8 harg8 xs0 2688 (by omega) _ k) _) arg4.view f

/-- The last point carries the maxima on. -/
theorem runC_colmax (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec Ideal S1x512x3584 .bf16) (x1 : Vec Ideal S1024x256 .f32) (x2 : Vec Ideal S1x256 .f32) (xs0 : Vec Ideal S8x3584 .f32) (xs1 : Vec Ideal S16x3584 .bf16) (f : arg9.view.ty.Contents (Elt Ideal)) :
    arg9.view.read (Elt Ideal) (arg9.view.writes (Elt Ideal) f (kernelRun_C (F := Ideal) c i arg1 harg1 arg2 harg2 arg3 harg3 arg4 harg4 arg5 harg5 arg6 harg6 arg7 harg7 arg8 harg8 arg9 harg9 hc0 hc1 x0 x1 x2 xs0 xs1).2.2.2.1) = colmax x0 xs1 := by
  unfold kernelRun_C
  exact read_colmax' (pay116_eq _) (pay120_eq _) (pay124_eq _) (pay4_eq _) (chunk1 c i arg1 harg1 arg2 harg2 arg3 harg3 arg4 harg4 arg5 harg5 arg6 harg6 arg7 harg7 arg8 harg8 arg9 harg9 x0 xs0 _ (fun k => row8 arg8 harg8 xs0 0 (by omega) _ k) _) (chunk2 c i arg1 harg1 arg2 harg2 arg3 harg3 arg4 harg4 arg5 harg5 arg6 harg6 arg7 harg7 arg8 harg8 arg9 harg9 x0 xs0 _ (fun k => row8 arg8 harg8 xs0 896 (by omega) _ k) _) (chunk3 c i arg1 harg1 arg2 harg2 arg3 harg3 arg4 harg4 arg5 harg5 arg6 harg6 arg7 harg7 arg8 harg8 arg9 harg9 x0 xs0 _ (fun k => row8 arg8 harg8 xs0 1792 (by omega) _ k) _) (chunk4 c i arg1 harg1 arg2 harg2 arg3 harg3 arg4 harg4 arg5 harg5 arg6 harg6 arg7 harg7 arg8 harg8 arg9 harg9 x0 xs0 _ (fun k => row8 arg8 harg8 xs0 2688 (by omega) _ k) _)
    (fun s k => rows16 arg9 harg9 xs1 0 (by omega) _ s k) (fun s k => rows16 arg9 harg9 xs1 896 (by omega) _ s k) (fun s k => rows16 arg9 harg9 xs1 1792 (by omega) _ s k) (fun s k => rows16 arg9 harg9 xs1 2688 (by omega) _ s k)

end Cert.KernelIdeal.Val
-- ==== Proof.KI.Inv.lean ====
/- The table of reciprocals that the first point writes: entry `(s, c)` is the reciprocal of the scale of column `c`'s tensor,
   fourteen columns to a tensor. -/
module

public import proofs.«01_k».proof.Proof.KI.CasesBC

@[expose] public section

set_option maxRecDepth 16384

noncomputable section

namespace Cert.KernelIdeal.Val

open Idealize.ShloMosaic Idealize.ShloMosaic.TcCoe Idealize.SL.Sem
open Cert.KernelIdeal Cert.KernelIdeal.Gen

/-- The reciprocal of a scale. -/
def recip (a : EReal) : EReal := Ideal.div (Ideal.ofBits .f32 0x3F800000#32) a

/-- The reciprocals, one for each tensor, on eight equal rows. -/
theorem pay7_apply (x : Vec Ideal S1x256 .f32) (s : Fin 8) (k : Fin 256) : k0_pay7 x (ix2 s k) = recip (x (ix2 0 k)) := by
  pointwise [k0_pay7, k0_pay6, recip]

/-- The word of the tensor that column `c` of a stretch of 128 columns belongs to, the stretch starting `w` columns into its tile. -/
def tensorWord (w : BitVec 32) : IVec S8x128 32 :=
  have q : IVec S8x128 32 := divsi (addi (iota .tc S8x128 32 [1] iota_S8x128_d1_w32) (broadcast S8x128 w)) (broadcast S8x128 14#32)
  select (cmpi .slt q (broadcast S8x128 0#32)) (addi q (broadcast S8x128 128#32)) q

/-- A tile of 128 tensors spread over a stretch of 128 columns. -/
def spread (w : BitVec 32) (v : Vec Ideal S8x128 .f32) : Vec Ideal S8x128 .f32 :=
  shapeCast S8x128 (dynamicGather 1 v (shapeCast S8x128 (shapeCast S8x128x1 (tensorWord w) shapeCasts_S8x128_S8x128x1) shapeCasts_S8x128x1_S8x128)) shapeCasts_S8x128_S8x128

/-- The word's arithmetic: the quotient by fourteen. -/
theorem tensorWord_word : ∀ (j : Fin 14) (k : Fin 128),
    (Scalar.select
      (IntOp.cmpi CmpIPredicate.slt (IntOp.divsi ArithUnit.vector (IntOp.addi (BitVec.ofNat 32 k.val) (BitVec.ofNat 32 (128 * j.val))) 14#32) 0#32)
      (IntOp.addi (IntOp.divsi ArithUnit.vector (IntOp.addi (BitVec.ofNat 32 k.val) (BitVec.ofNat 32 (128 * j.val))) 14#32) 128#32)
      (IntOp.divsi ArithUnit.vector (IntOp.addi (BitVec.ofNat 32 k.val) (BitVec.ofNat 32 (128 * j.val))) 14#32)).toNat % 128
      = (128 * j.val + k.val) / 14 := by
  decide +kernel

theorem tensorWord_apply (j : Fin 14) (s : Fin 8) (k : Fin 128) :
    (tensorWord (BitVec.ofNat 32 (128 * j.val)) (ix2 s k)).toNat % 128 = (128 * j.val + k.val) / 14 := by
  refine Eq.trans ?_ (tensorWord_word j k)
  pointwise [tensorWord]

theorem spread_apply (j : Fin 14) (v : Vec Ideal S8x128 .f32) (s : Fin 8) (k : Fin 128) :
    spread (BitVec.ofNat 32 (128 * j.val)) v (ix2 s k) = v (ix2 s ⟨(128 * j.val + k.val) / 14, by omega⟩) := by
  have e : spread (BitVec.ofNat 32 (128 * j.val)) v (ix2 s k)
      = v (ix2 s ⟨(tensorWord (BitVec.ofNat 32 (128 * j.val)) (ix2 s k)).toNat % 128, Nat.mod_lt _ (by decide)⟩) := by
    pointwise [spread]
  refine e.trans (congrArg (fun z => v (ix2 s z)) (Fin.ext (tensorWord_apply j s k)))

/-- The table of reciprocals by columns. -/
def invTable (x : Vec Ideal S1x256 .f32) : Vec Ideal S8x3584 .f32 :=
  fun y => recip (x (ix2 0 ⟨(y 1).val / 14, by have h : (y 1).val < 3584 := (y 1).isLt; omega⟩))

theorem inb8 (j : Fin 28) : ∀ a, (![0, 128 * j.val] : Fin 2 → ℕ) a + S8x128.size a ≤ S8x3584.size a
  | 0 => le_refl 8
  | 1 => by show 128 * j.val + 128 ≤ 3584; omega

theorem inbTile (j : Fin 28) : S8x256.Slices ![0, 128 * (j.val / 14)] S8x128 := by
  decide +revert

/-- The stretch of columns from column `128 * j`, as stored. -/
def invPiece (x : Vec Ideal S1x256 .f32) (j : Fin 28) : View.Piece (Elt Ideal) S8x3584 .f32 :=
  ⟨Rect.unit (s := S8x3584) ![0, 128 * j.val] S8x128.size (inb8 j),
    spread (BitVec.ofNat 32 (128 * (j.val % 14))) (extractStridedSlice S8x128 ![0, 128 * (j.val / 14)] (k0_pay7 x) (inbTile j))⟩

theorem emb8 (j : Fin 28) (s : Fin 8) (k : Fin 128) :
    (Rect.unit (s := S8x3584) ![0, 128 * j.val] S8x128.size (inb8 j)).emb (ix2 s k) = ix2 s ⟨128 * j.val + k.val, by omega⟩ := by
  refine Rect.emb_eq_of_coords _ _ _ fun a => ?_
  match a with
  | 0 => show s.val = 0 + 1 * s.val; omega
  | 1 => show 128 * j.val + k.val = 128 * j.val + 1 * k.val; omega

/-- Every stretch agrees with the table. -/
theorem invPiece_agree (x : Vec Ideal S1x256 .f32) (j : Fin 28) (z : S8x128.Idx) : (invPiece x j).2 z = invTable x ((invPiece x j).1.emb z) := by
  idx_vars z
  refine Eq.trans ?_ (congrArg (invTable x) (emb8 j z0 z1).symm)
  have h := spread_apply ⟨j.val % 14, Nat.mod_lt _ (by decide)⟩ (extractStridedSlice S8x128 ![0, 128 * (j.val / 14)] (k0_pay7 x) (inbTile j)) z0 z1
  refine h.trans ?_
  have e : extractStridedSlice S8x128 ![0, 128 * (j.val / 14)] (k0_pay7 x) (inbTile j) (ix2 z0 ⟨(128 * (j.val % 14) + z1.val) / 14, by omega⟩)
      = k0_pay7 x (ix2 z0 ⟨128 * (j.val / 14) + (128 * (j.val % 14) + z1.val) / 14, by omega⟩) :=
    congrArg (k0_pay7 x) (funext fun a => match a with
      | 0 => Fin.ext (Nat.zero_add _)
      | 1 => Fin.ext rfl)
  refine e.trans ((pay7_apply x _ _).trans (congrArg (fun k => recip (x (ix2 0 k))) (Fin.ext ?_)))
  show 128 * (j.val / 14) + (128 * (j.val % 14) + z1.val) / 14 = (128 * j.val + z1.val) / 14
  omega

/-- The stretches, last first, read back as the table, whatever the buffer held. -/
theorem read_inv {κ : Kind} {sp : Space} (v : View sig κ sp S8x3584 .f32) (f : v.ty.Contents (Elt Ideal)) (x : Vec Ideal S1x256 .f32) :
    v.read (Elt Ideal) (v.writes (Elt Ideal) f (List.ofFn (invPiece x)).reverse) = invTable x := by
  funext y
  refine View.read_writes_apply_of_pieces v f (invTable x) _ ?_ y ?_
  · intro p hp
    obtain ⟨j, rfl⟩ := (List.mem_ofFn' _ _).mp (List.mem_reverse.mp hp)
    exact invPiece_agree x j
  · have hy : (y 1).val < 3584 := (y 1).isLt
    refine ⟨invPiece x ⟨(y 1).val / 128, by omega⟩, List.mem_reverse.mpr ((List.mem_ofFn' _ _).mpr ⟨_, rfl⟩), ?_⟩
    refine (Rect.mem_set_unit (inb := inb8 _)).mpr fun a => ?_
    match a with
    | 0 => exact ⟨Nat.zero_le _, by show (y 0).val < 0 + 8; have := (y 0).isLt; have e : S8x3584.size 0 = 8 := rfl; omega⟩
    | 1 => exact ⟨by show 128 * ((y 1).val / 128) ≤ (y 1).val; omega, by show (y 1).val < 128 * ((y 1).val / 128) + 128; omega⟩

theorem readScale (m : Memref sig .tc .vmem S1x256 .f32) (hm : m.IsWhole) (x : Vec Ideal S1x256 .f32) (h) :
    View.readAt (Elt Ideal) m.view (Rect.unit (s := S1x256) ![0, 0] S1x256.size h).toLoadRect (hm.unread x) = x :=
  funext fun z => (hm.readAt_unread x _ z).trans (congrArg x (Rect.emb_eq_of_coords _ _ _ fun a => match a with
    | 0 => (by show (z 0).val = 0 + 1 * (z 0).val; omega)
    | 1 => (by show (z 1).val = 0 + 1 * (z 1).val; omega)))

/-- The first point's stores into the table are the stretches. -/
theorem pieces_inv (c : Dev nD) (arg3 : Memref sig .tc .vmem S1x256 .f32) (harg3 : arg3.IsWhole) (x2 : Vec Ideal S1x256 .f32) :
    kernelRun_A.sl.HS0_28 (F := Ideal) c arg3 harg3 x2 = (List.ofFn (invPiece x2)).reverse := by
  have e : kernelRun_A.sl.HS0_28 (F := Ideal) c arg3 harg3 x2 = (List.ofFn (invPiece (View.readAt (Elt Ideal) arg3.view (Rect.unit (s := S1x256) ![0, 0] S1x256.size inb_S1x256_S1x256_0_0).toLoadRect (harg3.unread x2)))).reverse := rfl
  rw [e, readScale]

end Cert.KernelIdeal.Val
-- ==== Proof.KI.CasesA.lean ====
/- The first point's stores, read back: the scale copied out, the table of reciprocals, the block's codes and the maxima
   carried on from zero. -/
module

public import proofs.«01_k».proof.Proof.KI.Inv
public import Idealize.ShloMosaic.Lib.Pipeline.ReadBack
public import Idealize.ShloMosaic.Lib.VecWindow

@[expose] public section

set_option maxRecDepth 16384

noncomputable section

namespace Cert.KernelIdeal.Val

open Idealize.ShloMosaic Idealize.ShloMosaic.TcCoe Idealize.SL.Sem
open Cert.KernelIdeal Cert.KernelIdeal.Gen

/-- The table of maxima before the first block. -/
def zeros16 : Vec Ideal S16x3584 .bf16 := fun _ => (0 : EReal)

theorem pay112_eq : k0_pay112 (F := Ideal) k0_pay51 = zeros16 := by
  funext y
  show Ideal.ofBits .bf16 0x0000#16 = 0
  exact Ideal.ofBits_zero_bf16

/-- A chunk's load of the reciprocals just written. -/
theorem row8cov {κ : Kind} {sp : Space} (v : View sig κ sp S8x3584 .f32) (L : List (View.Piece (Elt Ideal) S8x3584 .f32)) (x : Vec Ideal S1x256 .f32)
    (hL : L = (List.ofFn (invPiece x)).reverse) (o : ℕ) (ho : o + 896 ≤ 3584)
    (h : ∀ a, (![0, o] : Fin 2 → ℕ) a + S1x896.size a ≤ S8x3584.size a) (c : Fin 896) :
    v.readCov L (Rect.unit (s := S8x3584) ![0, o] S1x896.size h).toLoadRect (ix2 0 c) = invTable x (ix2 0 ⟨o + c.val, by omega⟩) := by
  subst hL
  exact (congrFun (read_inv v v.junk x) _).trans (congrArg (invTable x) (idx8 o ho h c))

/-- The piece that clears the table of maxima. -/
abbrev fill16 : View.Piece (Elt Ideal) S16x3584 .bf16 := ⟨Rect.unit (s := S16x3584) ![0, 0] S16x3584.size inb_S16x3584_S16x3584_0_0, (k0_pay112 (F := Ideal) k0_pay51 : Vec Ideal S16x3584 .bf16)⟩

/-- A chunk's load of the table of maxima just cleared. -/
theorem clear16 {κ : Kind} {sp : Space} (v : View sig κ sp S16x3584 .bf16) (r : Rect S16x3584) (z : r.shape.Idx) :
    v.readCov [fill16] r.toLoadRect z = (0 : EReal) := by
  refine (congrFun (View.readCov_fill v (off := ![0, 0]) _ _ _ r (by decide)) z).trans ?_
  exact congrFun pay112_eq _

/-- A store elsewhere does not change what is loaded. -/
theorem skip16 {κ : Kind} {sp : Space} (v : View sig κ sp S16x3584 .bf16) (r : Rect S16x3584) (w : r.shape.Idx → Elt Ideal .bf16)
    (L : List (View.Piece (Elt Ideal) S16x3584 .bf16)) (B : Rect S16x3584) (h : LoadRect.disj r B.toLoadRect = true)
    (hL : ∀ z, v.readCov L B.toLoadRect z = (0 : EReal)) (z : B.shape.Idx) : v.readCov (⟨r, w⟩ :: L) B.toLoadRect z = (0 : EReal) :=
  (congrFun (View.readCov_skip v r w L B.toLoadRect h) z).trans (hL z)

/-- The first point stores the codes of its block. -/
theorem runA_codes (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec Ideal S1x512x3584 .bf16) (x1 : Vec Ideal S1024x256 .f32) (x2 : Vec Ideal S1x256 .f32) (f : arg4.view.ty.Contents (Elt Ideal)) :
    arg4.view.read (Elt Ideal) (arg4.view.writes (Elt Ideal) f (kernelRun_A (F := Ideal) c i arg1 harg1 arg2 harg2 arg3 harg3 arg4 harg4 arg5 harg5 arg6 harg6 arg7 harg7 arg8 harg8 arg9 harg9 hc0 hc1 x0 x1 x2).1) = codes x0 (invTable x2) := by
  unfold kernelRun_A
  exact read_codes (chunk1 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 0 (by omega) _ k) _) (chunk2 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 896 (by omega) _ k) _) (chunk3 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 1792 (by omega) _ k) _) (chunk4 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 2688 (by omega) _ k) _) arg4.view f

/-- The first point carries the maxima on. -/
theorem runA_colmax (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec Ideal S1x512x3584 .bf16) (x1 : Vec Ideal S1024x256 .f32) (x2 : Vec Ideal S1x256 .f32) (f : arg9.view.ty.Contents (Elt Ideal)) :
    arg9.view.read (Elt Ideal) (arg9.view.writes (Elt Ideal) f (kernelRun_A (F := Ideal) c i arg1 harg1 arg2 harg2 arg3 harg3 arg4 harg4 arg5 harg5 arg6 harg6 arg7 harg7 arg8 harg8 arg9 harg9 hc0 hc1 x0 x1 x2).2.2.2.1) = colmax x0 zeros16 := by
  unfold kernelRun_A
  exact read_colmax' (f := arg9.view.writes (Elt Ideal) f [fill16]) (pay116_eq _) (pay120_eq _) (pay124_eq _) (pay4_eq _) (chunk1 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 0 (by omega) _ k) _) (chunk2 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 896 (by omega) _ k) _) (chunk3 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 1792 (by omega) _ k) _) (chunk4 c i arg1 harg1 arg2 harg2 arg3 harg3 arg4 harg4 arg5 harg5 arg6 harg6 arg7 harg7 arg8 harg8 arg9 harg9 x0 (invTable x2) _ (fun k => row8cov arg8.view _ x2 (pieces_inv c arg3 harg3 x2) 2688 (by omega) _ k) _)
    (fun s k => clear16 arg9.view _ _) (fun s k => skip16 arg9.view _ _ _ _ (by decide) (clear16 arg9.view _) _) (fun s k => skip16 arg9.view _ _ _ _ (by decide) (skip16 arg9.view _ _ _ _ (by decide) (clear16 arg9.view _)) _) (fun s k => skip16 arg9.view _ _ _ _ (by decide) (skip16 arg9.view _ _ _ _ (by decide) (skip16 arg9.view _ _ _ _ (by decide) (clear16 arg9.view _))) _)

/-- The first point writes the table of reciprocals. -/
theorem runA_inv (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec Ideal S1x512x3584 .bf16) (x1 : Vec Ideal S1024x256 .f32) (x2 : Vec Ideal S1x256 .f32) (f : arg8.view.ty.Contents (Elt Ideal)) :
    arg8.view.read (Elt Ideal) (arg8.view.writes (Elt Ideal) f (kernelRun_A (F := Ideal) c i arg1 harg1 arg2 harg2 arg3 harg3 arg4 harg4 arg5 harg5 arg6 harg6 arg7 harg7 arg8 harg8 arg9 harg9 hc0 hc1 x0 x1 x2).2.2.1) = invTable x2 := by
  have e : (kernelRun_A (F := Ideal) c i arg1 harg1 arg2 harg2 arg3 harg3 arg4 harg4 arg5 harg5 arg6 harg6 arg7 harg7 arg8 harg8 arg9 harg9 hc0 hc1 x0 x1 x2).2.2.1 = (List.ofFn (invPiece x2)).reverse := by
    unfold kernelRun_A
    exact pieces_inv c arg3 harg3 x2
  rw [e]
  exact read_inv _ _ _

/-- The first point copies the scale out. -/
theorem runA_scale (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : cond0_0 i) (hc1 : ¬cond0_1 i)
    (x0 : Vec Ideal S1x512x3584 .bf16) (x1 : Vec Ideal S1024x256 .f32) (x2 : Vec Ideal S1x256 .f32) (f : arg7.view.ty.Contents (Elt Ideal)) :
    arg7.view.read (Elt Ideal) (arg7.view.writes (Elt Ideal) f (kernelRun_A (F := Ideal) c i arg1 harg1 arg2 harg2 arg3 harg3 arg4 harg4 arg5 harg5 arg6 harg6 arg7 harg7 arg8 harg8 arg9 harg9 hc0 hc1 x0 x1 x2).2.1) = x2 := by
  have e : (kernelRun_A (F := Ideal) c i arg1 harg1 arg2 harg2 arg3 harg3 arg4 harg4 arg5 harg5 arg6 harg6 arg7 harg7 arg8 harg8 arg9 harg9 hc0 hc1 x0 x1 x2).2.1 = [⟨Rect.unit (s := S1x256) ![0, 0] S1x256.size inb_S1x256_S1x256_0_0, x2⟩] := by
    unfold kernelRun_A
    refine congrArg (fun w => [(⟨Rect.unit (s := S1x256) ![0, 0] S1x256.size inb_S1x256_S1x256_0_0, w⟩ : View.Piece (Elt Ideal) S1x256 .f32)]) ?_
    exact (shapeCast_self _ _).trans (readScale arg3 harg3 x2 _)
  rw [e]
  exact View.read_writes_full arg7.view f inb_S1x256_S1x256_0_0 x2 []

end Cert.KernelIdeal.Val
-- ==== Proof.KI.Amax.lean ====
/- The last point's row of maxima: entry `k` is the greatest of the table's columns of tensor `k`. -/
module

public import proofs.«01_k».proof.Proof.KI.CasesA

@[expose] public section

set_option maxRecDepth 16384

noncomputable section

namespace Cert.KernelIdeal.Val

open Idealize.ShloMosaic Idealize.ShloMosaic.TcCoe Idealize.SL.Sem
open Cert.KernelIdeal Cert.KernelIdeal.Gen

/-- The greatest of each column of the table, on eight equal rows. -/
def columnMax (v : Vec Ideal S16x3584 .bf16) : Vec Ideal S8x3584 .f32 :=
  broadcastTo S8x3584 (shapeCast S1x3584 (shapeCast S1x3584
    (multiReduction .maximumf [0] S3584 (extf (F := Ideal) .f32 v bitsLt_bf16_f32) 0xFF800000#32 reduces_S16x3584_S3584 (.inl rfl) rfl)
    shapeCasts_S3584_S1x3584) shapeCasts_S1x3584_S1x3584) broadcasts_S1x3584_S8x3584

theorem columnMax_le (v : Vec Ideal S16x3584 .bf16) (s : Fin 8) (k : Fin 3584) (b : EReal) :
    columnMax v (ix2 s k) ≤ b ↔ ∀ r : Fin 16, v (ix2 r k) ≤ b := by
  have e : columnMax v (ix2 s k) = Finset.univ.fold max (⊥ : EReal) fun r : Fin 16 => v (ix2 r k) := by
    pointwise [columnMax]
    rw [show Ideal.ofBits FTy.f32 4286578688#32 = (⊥ : EReal) from by simp [Ideal.ofBits, Ideal.ieee]]
  show (_ : EReal) ≤ b ↔ _
  rw [e, Finset.fold_max_le]
  simp

/-- Each column against the one `n` further on. -/
def reach (w : BitVec 32) (x : Vec Ideal S8x3584 .f32) : Vec Ideal S8x3584 .f32 :=
  maximumf (F := Ideal) (φ := .f32) x (dynamicRotate 1 w none x rotates_S8x3584_d1)

theorem reach_apply (n : Fin 7) (w : BitVec 32) (hw : w = BitVec.ofNat 32 (3584 - n.val)) (x : Vec Ideal S8x3584 .f32) (s : Fin 8) (k : Fin 3584) (hk : k.val + n.val < 3584) :
    reach w x (ix2 s k) = max (α := EReal) (x (ix2 s k)) (x (ix2 s ⟨k.val + n.val, hk⟩)) := by
  subst hw
  have e : reach (BitVec.ofNat 32 (3584 - n.val)) x (ix2 s k) = max (α := EReal) (x (ix2 s k))
      (x (ix2 s ⟨(k.val + 3584 - (BitVec.ofNat 32 (3584 - n.val)).toNat % 3584) % 3584, Nat.mod_lt _ (by decide)⟩)) := by
    pointwise [reach]
  refine e.trans (congrArg (fun z => max (α := EReal) (x (ix2 s k)) (x (ix2 s z))) (Fin.ext ?_))
  show (k.val + 3584 - (BitVec.ofNat 32 (3584 - n.val)).toNat % 3584) % 3584 = k.val + n.val
  rw [BitVec.toNat_ofNat]
  have := n.isLt
  omega

/-- `x` holds at column `k` the greatest of the table's `m` columns from `k` on. -/
def Covers (v : Vec Ideal S16x3584 .bf16) (x : Vec Ideal S8x3584 .f32) (m : ℕ) : Prop :=
  ∀ (s : Fin 8) (k : Fin 3584) (_ : k.val + m ≤ 3584) (b : EReal),
    x (ix2 s k) ≤ b ↔ ∀ (k' : Fin 3584), k.val ≤ k'.val → k'.val < k.val + m → ∀ r : Fin 16, v (ix2 r k') ≤ b

theorem Covers.reach {v : Vec Ideal S16x3584 .bf16} {x : Vec Ideal S8x3584 .f32} {m : ℕ} (h : Covers v x m) (n : Fin 7) (w : BitVec 32)
    (hw : w = BitVec.ofNat 32 (3584 - n.val)) (hn : n.val ≤ m) (hm : 0 < m) : Covers v (reach w x) (m + n.val) := by
  intro s k hk b
  rw [reach_apply n w hw x s k (by omega)]
  refine max_le_iff.trans ((and_congr (h s k (by omega) b) (h s ⟨k.val + n.val, by omega⟩ (by show k.val + n.val + m ≤ 3584; omega) b)).trans ?_)
  constructor
  · rintro ⟨h1, h2⟩ k' e1 e2 r
    rcases Nat.lt_or_ge k'.val (k.val + m) with e | e
    · exact h1 k' e1 e r
    · exact h2 k' (by show k.val + n.val ≤ k'.val; omega) (by show k'.val < k.val + n.val + m; omega) r
  · refine fun h => ⟨fun k' e1 e2 r => h k' e1 (by omega) r, fun k' e1 e2 r => ?_⟩
    have e1 : k.val + n.val ≤ k'.val := e1
    have e2 : k'.val < k.val + n.val + m := e2
    exact h k' (by omega) (by omega) r

/-- The kernel's window of fourteen columns. -/
theorem covers_window (v : Vec Ideal S16x3584 .bf16) : Covers v (k0_pay52 v) 14 := by
  have h1 : Covers v (columnMax v) 1 := fun s k hk b => (columnMax_le v s k b).trans
    ⟨fun h k' e1 e2 r => by rw [show k' = k from Fin.ext (by omega)]; exact h r, fun h r => h k (le_refl _) (by omega) r⟩
  exact (((h1.reach 1 3583#32 rfl (le_refl _) (by omega)).reach 2 3582#32 rfl (le_refl _) (by omega)).reach 4 3580#32 rfl (le_refl _) (by omega)).reach 6 3578#32 rfl (by decide) (by omega)

/-- Entries taken from one tile of 128 columns, the first of them `w` columns in, at every fourteenth column: lane `k` takes column `14 * k`
    where it lies in the tile. -/
def pick (w : BitVec 32) (tile out : Vec Ideal S8x128 .f32) : Vec Ideal S8x128 .f32 :=
  have start : IVec S8x128 32 := subi (muli (iota .tc S8x128 32 [1] iota_S8x128_d1_w32) (broadcast S8x128 14#32)) (broadcast S8x128 w)
  have inside : IVec S8x128 1 := andi (cmpi .sge start (broadcast S8x128 0#32)) (cmpi .slt start (broadcast S8x128 128#32))
  have at0 : IVec S8x128 32 := select inside start (broadcast S8x128 0#32)
  have at1 : IVec S8x128 32 := select (cmpi .slt at0 (broadcast S8x128 0#32)) (addi at0 (broadcast S8x128 128#32)) at0
  select inside (dynamicGather 1 tile (shapeCast S8x128 (shapeCast S8x128x1 at1 shapeCasts_S8x128_S8x128x1) shapeCasts_S8x128x1_S8x128)) out

/-- Where lane `k` reads, as a word relative to the tile's first column. -/
abbrev startWord (j : Fin 14) (k : Fin 128) : BitVec 32 := IntOp.subi (IntOp.muli (BitVec.ofNat 32 k.val) 14#32) (BitVec.ofNat 32 (128 * j.val))
/-- Whether that is inside the tile. -/
abbrev insideWord (j : Fin 14) (k : Fin 128) : BitVec 1 :=
  IntOp.andi (IntOp.cmpi CmpIPredicate.sge (startWord j k) 0#32) (IntOp.cmpi CmpIPredicate.slt (startWord j k) 128#32)
/-- The word clamped to the tile. -/
abbrev clampWord (j : Fin 14) (k : Fin 128) : BitVec 32 := Scalar.select (insideWord j k) (startWord j k) 0#32

theorem insideWord_eq : ∀ (j : Fin 14) (k : Fin 128), insideWord j k = if 128 * j.val ≤ 14 * k.val ∧ 14 * k.val < 128 * j.val + 128 then 1#1 else 0#1 := by
  decide +kernel

theorem clampWord_eq : ∀ (j : Fin 14) (k : Fin 128), 128 * j.val ≤ 14 * k.val ∧ 14 * k.val < 128 * j.val + 128 →
    (Scalar.select (IntOp.cmpi CmpIPredicate.slt (clampWord j k) 0#32) (IntOp.addi (clampWord j k) 128#32) (clampWord j k)).toNat % 128 = 14 * k.val - 128 * j.val := by
  decide +kernel

theorem pick_apply (j : Fin 14) (tile out : Vec Ideal S8x128 .f32) (s : Fin 8) (k : Fin 128) :
    pick (BitVec.ofNat 32 (128 * j.val)) tile out (ix2 s k)
      = if h : 128 * j.val ≤ 14 * k.val ∧ 14 * k.val < 128 * j.val + 128 then tile (ix2 s ⟨14 * k.val - 128 * j.val, by omega⟩) else out (ix2 s k) := by
  have e : pick (BitVec.ofNat 32 (128 * j.val)) tile out (ix2 s k)
      = Scalar.select (insideWord j k) (tile (ix2 s ⟨(Scalar.select (IntOp.cmpi CmpIPredicate.slt (clampWord j k) 0#32)
          (IntOp.addi (clampWord j k) 128#32) (clampWord j k)).toNat % 128, Nat.mod_lt _ (by decide)⟩)) (out (ix2 s k)) := by
    pointwise [pick]
  rw [e, insideWord_eq]
  split_ifs with h
  · exact congrArg (fun z => tile (ix2 s z)) (Fin.ext (clampWord_eq j k h))
  · rfl

theorem slices_tile (t : Fin 2) (n : Fin 14) : S8x3584.Slices ![0, 128 * (14 * t.val + n.val)] S8x128 := by
  decide +revert

/-- The first `n` tiles of fourteen, picked one after the other. -/
def collect (x : Vec Ideal S8x3584 .f32) (t : Fin 2) : (n : ℕ) → n ≤ 14 → Vec Ideal S8x128 .f32
  | 0, _ => broadcast S8x128 (Scalar.ofBits (F := Ideal) .f32 0x00000000#32)
  | n + 1, h => pick (BitVec.ofNat 32 (128 * n)) (extractStridedSlice S8x128 ![0, 128 * (14 * t.val + n)] x (slices_tile t ⟨n, h⟩)) (collect x t n (Nat.le_of_lt h))

theorem collect_apply (x : Vec Ideal S8x3584 .f32) (t : Fin 2) (s : Fin 8) (k : Fin 128) : ∀ (n : ℕ) (h : n ≤ 14), 14 * k.val < 128 * n →
    collect x t n h (ix2 s k) = x (ix2 s ⟨14 * (128 * t.val + k.val), by omega⟩)
  | 0, _, h => absurd h (by omega)
  | n + 1, h, hk => by
    refine (pick_apply ⟨n, h⟩ _ _ s k).trans ?_
    by_cases c : 128 * n ≤ 14 * k.val
    · rw [dif_pos ⟨c, by show 14 * k.val < 128 * n + 128; omega⟩]
      refine congrArg x (funext fun a => match a with
        | 0 => Fin.ext (Nat.zero_add _)
        | 1 => Fin.ext ?_)
      show 128 * (14 * t.val + n) + (14 * k.val - 128 * n) = 14 * (128 * t.val + k.val)
      omega
    · rw [dif_neg (fun e => c e.1)]
      exact collect_apply x t s k n _ (by omega)

/-- The last point's row of maxima, from the table of maxima. -/
def amaxRow (v : Vec Ideal S16x3584 .bf16) : Vec Ideal S1x256 .f32 :=
  extractStridedSlice S1x256 ![0, 0] (concatenate S8x256 1 [⟨S8x128, collect (k0_pay52 v) 0 14 (le_refl _)⟩, ⟨S8x128, collect (k0_pay52 v) 1 14 (le_refl _)⟩]
    concatenates_S8x128_S8x128_S8x256_d1) slices_S8x256_o0_0_S1x256

/-- Entry `k` is entry `14 * k` of the windows of fourteen columns. -/
theorem amaxRow_apply (v : Vec Ideal S16x3584 .bf16) (k : Fin 256) :
    amaxRow v (ix2 0 k) = k0_pay52 v (ix2 0 ⟨14 * k.val, by omega⟩) := by
  have e : amaxRow v (ix2 0 k) = if h : k.val < 128 then collect (k0_pay52 v) 0 14 (le_refl _) (ix2 0 ⟨k.val, h⟩)
      else collect (k0_pay52 v) 1 14 (le_refl _) (ix2 0 ⟨k.val - 128, by omega⟩) := by
    pointwise [amaxRow]
  rw [e]
  split_ifs with h
  · refine (collect_apply _ 0 0 ⟨k.val, h⟩ 14 _ (by show 14 * k.val < 1792; omega)).trans (congrArg (fun z => k0_pay52 v (ix2 0 z)) (Fin.ext ?_))
    show 14 * (128 * 0 + k.val) = 14 * k.val
    omega
  · refine (collect_apply _ 1 0 ⟨k.val - 128, by omega⟩ 14 _ (by show 14 * (k.val - 128) < 1792; omega)).trans (congrArg (fun z => k0_pay52 v (ix2 0 z)) (Fin.ext ?_))
    show 14 * (128 * 1 + (k.val - 128)) = 14 * k.val
    omega

/-- What bounds a tensor's maximum: the magnitudes in its fourteen columns. -/
theorem amaxRow_le (v : Vec Ideal S16x3584 .bf16) (k : Fin 256) (b : EReal) :
    amaxRow v (ix2 0 k) ≤ b ↔ ∀ (r : Fin 16) (c : Fin 3584), c.val / 14 = k.val → v (ix2 r c) ≤ b := by
  rw [amaxRow_apply]
  refine (covers_window v 0 ⟨14 * k.val, by omega⟩ (by show 14 * k.val + 14 ≤ 3584; omega) b).trans ⟨fun h r c hc => h c ?_ ?_ r, fun h c e1 e2 r => h r c ?_⟩
  · show 14 * k.val ≤ c.val; omega
  · show c.val < 14 * k.val + 14; omega
  · have e1 : 14 * k.val ≤ c.val := e1
    have e2 : c.val < 14 * k.val + 14 := e2
    omega

/-- One bit of the exponent field, decided by a comparison with the power of two whose exponent field has the bit set. -/
def bitStep (b : BitVec 32) (y : Vec Ideal S1x256 .f32) (e : IVec S1x256 32) : IVec S1x256 32 :=
  select (cmpf (F := Ideal) (φ := .f32) .oge y (bitcastToFloat .f32 (shli (ori e (broadcast S1x256 b)) (broadcast S1x256 23#32)))) (ori e (broadcast S1x256 b)) e

/-- The exponent field, bit by bit from the highest. -/
def exponentRow (y : Vec Ideal S1x256 .f32) : IVec S1x256 32 :=
  bitStep 1#32 y (bitStep 2#32 y (bitStep 4#32 y (bitStep 8#32 y (bitStep 16#32 y (bitStep 32#32 y (bitStep 64#32 y (bitStep 128#32 y (broadcast S1x256 0#32))))))))

/-- The greatest of the rows that stay in the window, and of the new row. -/
def windowMax (h : Vec Ideal S1023x256 .f32) (a : Vec Ideal S1x256 .f32) : Vec Ideal S1x256 .f32 :=
  maximumf (F := Ideal) (φ := .f32) (shapeCast S1x256 (multiReduction .maximumf [0] S256 (h : FVec Ideal S1023x256 .f32) 0xFF800000#32 reduces_S1023x256_S256 (.inl rfl) rfl) shapeCasts_S256_S1x256) a

/-- The row of new scales. -/
def scaleRow (w : Vec Ideal S1x256 .f32) : Vec Ideal S1x256 .f32 :=
  k0_pay5 (F := Ideal) w (exponentRow (mulf (F := Ideal) (φ := .f32) w (broadcast S1x256 (Scalar.ofBits (F := Ideal) .f32 0x3B124925#32))))

/-- The rows of the history that stay in the window, as loaded. -/
abbrev kept (h : Vec Ideal S1024x256 .f32) : Vec Ideal S1023x256 .f32 :=
  fun z => h ((Rect.unit (s := S1024x256) ![0, 0] S1023x256.size inb_S1024x256_S1023x256_0_0).toLoadRect.idx z)

section
variable (c : Dev nD) (i : grid0.Coords) (arg1 : Memref sig .tc .vmem S1x512x3584 .bf16) (harg1 : arg1.IsWhole) (arg2 : Memref sig .tc .vmem S1024x256 .f32) (harg2 : arg2.IsWhole) (arg3 : Memref sig .tc .vmem S1x256 .f32) (harg3 : arg3.IsWhole) (arg4 : Memref sig .tc .vmem S1x512x3584 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S8x3584 .f32) (harg8 : arg8.IsWhole) (arg9 : Memref sig .tc .vmem S16x3584 .bf16) (harg9 : arg9.IsWhole) (hc0 : ¬cond0_0 i) (hc1 : cond0_1 i)
    (x0 : Vec Ideal S1x512x3584 .bf16) (x1 : Vec Ideal S1024x256 .f32) (x2 : Vec Ideal S1x256 .f32) (xs0 : Vec Ideal S8x3584 .f32) (xs1 : Vec Ideal S16x3584 .bf16)

/-- The table of maxima as the last point loads it back. -/
theorem runC_table : kernelRun_C.sl.v34 (F := Ideal) c i arg1 harg1 arg2 harg2 arg3 harg3 arg4 harg4 arg5 harg5 arg6 harg6 arg7 harg7 arg8 harg8 arg9 harg9 x0 xs0 xs1 = colmax x0 xs1 := by
  have key : arg9.view.read (Elt Ideal) (arg9.view.writes (Elt Ideal) arg9.view.junk (kernelRun_C.sl.HS1_4 (F := Ideal) c i arg1 harg1 arg2 harg2 arg3 harg3 arg4 harg4 arg5 harg5 arg6 harg6 arg7 harg7 arg8 harg8 arg9 harg9 x0 xs0 xs1)) = colmax x0 xs1 :=
    read_colmax' (pay116_eq _) (pay120_eq _) (pay124_eq _) (pay4_eq _) (chunk1 c i arg1 harg1 arg2 harg2 arg3 harg3 arg4 harg4 arg5 harg5 arg6 harg6 arg7 harg7 arg8 harg8 arg9 harg9 x0 xs0 _ (fun k => row8 arg8 harg8 xs0 0 (by omega) _ k) _) (chunk2 c i arg1 harg1 arg2 harg2 arg3 harg3 arg4 harg4 arg5 harg5 arg6 harg6 arg7 harg7 arg8 harg8 arg9 harg9 x0 xs0 _ (fun k => row8 arg8 harg8 xs0 896 (by omega) _ k) _) (chunk3 c i arg1 harg1 arg2 harg2 arg3 harg3 arg4 harg4 arg5 harg5 arg6 harg6 arg7 harg7 arg8 harg8 arg9 harg9 x0 xs0 _ (fun k => row8 arg8 harg8 xs0 1792 (by omega) _ k) _) (chunk4 c i arg1 harg1 arg2 harg2 arg3 harg3 arg4 harg4 arg5 harg5 arg6 harg6 arg7 harg7 arg8 harg8 arg9 harg9 x0 xs0 _ (fun k => row8 arg8 harg8 xs0 2688 (by omega) _ k) _)
    (fun s k => rows16 arg9 harg9 xs1 0 (by omega) _ s k) (fun s k => rows16 arg9 harg9 xs1 896 (by omega) _ s k) (fun s k => rows16 arg9 harg9 xs1 1792 (by omega) _ s k) (fun s k => rows16 arg9 harg9 xs1 2688 (by omega) _ s k)
  funext z
  refine Eq.trans (congrArg (arg9.view.read (Elt Ideal) (arg9.view.writes (Elt Ideal) arg9.view.junk (kernelRun_C.sl.HS1_4 (F := Ideal) c i arg1 harg1 arg2 harg2 arg3 harg3 arg4 harg4 arg5 harg5 arg6 harg6 arg7 harg7 arg8 harg8 arg9 harg9 x0 xs0 xs1)))
    (Rect.emb_eq_of_coords (Rect.unit (s := S16x3584) ![0, 0] S16x3584.size inb_S16x3584_S16x3584_0_0) z z fun a => match a with
      | 0 => (by show (z 0).val = 0 + 1 * (z 0).val; omega)
      | 1 => (by show (z 1).val = 0 + 1 * (z 1).val; omega))) (congrFun key z)

/-- The last point's row of maxima is that of the table. -/
theorem runC_amax (f : arg5.view.ty.Contents (Elt Ideal)) :
    arg5.view.read (Elt Ideal) (arg5.view.writes (Elt Ideal) f (kernelRun_C (F := Ideal) c i arg1 harg1 arg2 harg2 arg3 harg3 arg4 harg4 arg5 harg5 arg6 harg6 arg7 harg7 arg8 harg8 arg9 harg9 hc0 hc1 x0 x1 x2 xs0 xs1).2.1) = amaxRow (colmax x0 xs1) := by
  have e : (kernelRun_C (F := Ideal) c i arg1 harg1 arg2 harg2 arg3 harg3 arg4 harg4 arg5 harg5 arg6 harg6 arg7 harg7 arg8 harg8 arg9 harg9 hc0 hc1 x0 x1 x2 xs0 xs1).2.1 = [⟨Rect.unit (s := S1x256) ![0, 0] S1x256.size inb_S1x256_S1x256_0_0, amaxRow (kernelRun_C.sl.v34 (F := Ideal) c i arg1 harg1 arg2 harg2 arg3 harg3 arg4 harg4 arg5 harg5 arg6 harg6 arg7 harg7 arg8 harg8 arg9 harg9 x0 xs0 xs1)⟩] := by
    unfold kernelRun_C
    rfl
  rw [e, runC_table]
  exact View.read_writes_full arg5.view f inb_S1x256_S1x256_0_0 _ []

/-- The last point's row of scales is that of the history and the row of maxima. -/
theorem runC_scale (f : arg6.view.ty.Contents (Elt Ideal)) :
    arg6.view.read (Elt Ideal) (arg6.view.writes (Elt Ideal) f (kernelRun_C (F := Ideal) c i arg1 harg1 arg2 harg2 arg3 harg3 arg4 harg4 arg5 harg5 arg6 harg6 arg7 harg7 arg8 harg8 arg9 harg9 hc0 hc1 x0 x1 x2 xs0 xs1).2.2.1) = scaleRow (windowMax (kept x1) (amaxRow (colmax x0 xs1))) := by
  have e1 : kernelRun_C.sl.r_22 (F := Ideal) c i arg1 harg1 arg2 harg2 arg3 harg3 arg4 harg4 arg5 harg5 arg6 harg6 arg7 harg7 arg8 harg8 arg9 harg9 x0 x1 xs0 xs1 = windowMax (View.readAt (Elt Ideal) arg2.view (Rect.unit (s := S1024x256) ![0, 0] S1023x256.size inb_S1024x256_S1023x256_0_0).toLoadRect (harg2.unread x1)) (amaxRow (kernelRun_C.sl.v34 (F := Ideal) c i arg1 harg1 arg2 harg2 arg3 harg3 arg4 harg4 arg5 harg5 arg6 harg6 arg7 harg7 arg8 harg8 arg9 harg9 x0 xs0 xs1)) := by
    rfl
  have e3 : kernelRun_C.sl.r_23 (F := Ideal) c i arg1 harg1 arg2 harg2 arg3 harg3 arg4 harg4 arg5 harg5 arg6 harg6 arg7 harg7 arg8 harg8 arg9 harg9 x0 x1 xs0 xs1 = mulf (F := Ideal) (φ := .f32) (kernelRun_C.sl.r_22 (F := Ideal) c i arg1 harg1 arg2 harg2 arg3 harg3 arg4 harg4 arg5 harg5 arg6 harg6 arg7 harg7 arg8 harg8 arg9 harg9 x0 x1 xs0 xs1) (broadcast S1x256 (Scalar.ofBits (F := Ideal) .f32 0x3B124925#32)) := by
    rfl
  have e2 : kernelRun_C.sl.r_26 (F := Ideal) c i arg1 harg1 arg2 harg2 arg3 harg3 arg4 harg4 arg5 harg5 arg6 harg6 arg7 harg7 arg8 harg8 arg9 harg9 x0 x1 xs0 xs1 = exponentRow (kernelRun_C.sl.r_23 (F := Ideal) c i arg1 harg1 arg2 harg2 arg3 harg3 arg4 harg4 arg5 harg5 arg6 harg6 arg7 harg7 arg8 harg8 arg9 harg9 x0 x1 xs0 xs1) := by
    rfl
  have e : (kernelRun_C (F := Ideal) c i arg1 harg1 arg2 harg2 arg3 harg3 arg4 harg4 arg5 harg5 arg6 harg6 arg7 harg7 arg8 harg8 arg9 harg9 hc0 hc1 x0 x1 x2 xs0 xs1).2.2.1 = [⟨Rect.unit (s := S1x256) ![0, 0] S1x256.size inb_S1x256_S1x256_0_0,
      k0_pay5 (kernelRun_C.sl.r_22 (F := Ideal) c i arg1 harg1 arg2 harg2 arg3 harg3 arg4 harg4 arg5 harg5 arg6 harg6 arg7 harg7 arg8 harg8 arg9 harg9 x0 x1 xs0 xs1) (kernelRun_C.sl.r_26 (F := Ideal) c i arg1 harg1 arg2 harg2 arg3 harg3 arg4 harg4 arg5 harg5 arg6 harg6 arg7 harg7 arg8 harg8 arg9 harg9 x0 x1 xs0 xs1)⟩] := by
    unfold kernelRun_C
    rfl
  rw [e, e2, e3, e1, runC_table, show View.readAt (Elt Ideal) arg2.view (Rect.unit (s := S1024x256) ![0, 0] S1023x256.size inb_S1024x256_S1023x256_0_0).toLoadRect (harg2.unread x1) = kept x1 from
    funext fun z => harg2.readAt_unread x1 _ z]
  exact View.read_writes_full arg6.view f inb_S1x256_S1x256_0_0 _ []

end

end Cert.KernelIdeal.Val
-- ==== Proof.KI.Dats.lean ====
/- The pipeline's proof data with exact contents: what every staging buffer and the two carried tables hold after each
   grid point, the body's triple at each kind of point, and the launch. -/
module

public import proofs.«01_k».proof.Proof.KI.CasesA
public import proofs.«01_k».proof.Proof.KI.Amax

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Val

local notation "𝕄" => MT nD τ sig Unit (Elt Ideal) ℕ (UR sig nD τ) ℕ

variable (m : (ℓ : Loc nD τ sig) → Buf (Elt Ideal) ℓ) (ρ : Dev nD → PrngReg)

theorem zero_lt_N : 0 < cfg0.N := lt_of_lt_of_eq (by decide) (show 94 = cfg0.N from N_0.symm)

/-- The row of scales the steps run with. -/
def scale0 (c : Dev nD) : Vec Ideal S1x256 .f32 := iblk m c 2 ⟨0, zero_lt_N⟩

/-- The table of maxima after grid point `n`. -/
def colAt (c : Dev nD) : (n : ℕ) → n < cfg0.N → Vec Ideal S16x3584 .bf16
  | 0, h => colmax (iblk m c 0 ⟨0, h⟩) zeros16
  | n + 1, h => colmax (iblk m c 0 ⟨n + 1, h⟩) (colAt c n (Nat.lt_of_succ_lt h))

theorem colAt_zero (c : Dev nD) (t : Fin cfg0.N) (ht : t.val = 0) :
    colAt m c t.val t.isLt = colmax (iblk m c 0 t) zeros16 := by
  obtain ⟨n, hn⟩ := t
  cases n with
  | zero => rfl
  | succ n => exact absurd ht (Nat.succ_ne_zero n)

theorem colAt_pos (c : Dev nD) (t : Fin cfg0.N) (ht : t.val ≠ 0) :
    colAt m c t.val t.isLt = colmax (iblk m c 0 t) (colAt m c (t.val - 1) (Nat.lt_of_le_of_lt (Nat.sub_le _ _) t.isLt)) := by
  obtain ⟨n, hn⟩ := t
  cases n with
  | zero => exact absurd rfl ht
  | succ n => rfl

/-- The loop invariant before point `n`: before the first one everything scoped at anything; then the two carried
    tables at their contents. -/
def PhiS (c : Dev nD) : (n : ℕ) → n ≤ cfg0.N → sProp 𝕄
  | 0, _ => Pipeline.ΦA spec0 c
  | n + 1, hn => iprop(iprop(owns (c : Thread nD τ) scM0_0 fullShare (invTable (scale0 m c)) ∗ owns (c : Thread nD τ) scM0_1 fullShare (colAt m c n hn)) ∗ (∃ r, prngReg c r))

theorem PhiS_zero (c : Dev nD) (n : ℕ) (hn : n ≤ cfg0.N) (h : n = 0) : PhiS m c n hn = Pipeline.ΦA spec0 c := by
  subst h; rfl

theorem PhiS_succ (c : Dev nD) (n : ℕ) (hn : n + 1 ≤ cfg0.N) :
    PhiS m c (n + 1) hn = iprop(iprop(owns (c : Thread nD τ) scM0_0 fullShare (invTable (scale0 m c)) ∗ owns (c : Thread nD τ) scM0_1 fullShare (colAt m c n hn)) ∗ (∃ r, prngReg c r)) := rfl

theorem PhiS_pos (c : Dev nD) (n : ℕ) (hn : n ≤ cfg0.N) (h : n ≠ 0) :
    PhiS m c n hn = iprop(iprop(owns (c : Thread nD τ) scM0_0 fullShare (invTable (scale0 m c)) ∗ owns (c : Thread nD τ) scM0_1 fullShare (colAt m c (n - 1) (by omega))) ∗ (∃ r, prngReg c r)) := by
  cases n with
  | zero => exact absurd rfl h
  | succ n => rfl

/-- The proof data: the arrays as the region finds them; after the body at point `t` each input's buffer at its block,
    the codes of that block, the two rows of the last point (read only there) and the copied scale. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codes (iblk m c 0 t) (invTable (scale0 m c))
    | ⟨4, _⟩ => amaxRow (colAt m c t.val t.isLt)
    | ⟨5, _⟩ => scaleRow (windowMax (kept (iblk m c 1 t)) (amaxRow (colAt m c t.val t.isLt)))
    | ⟨6, _⟩ => scale0 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codes (iblk m c 0 t) (invTable (scale0 m c)) := by dsimp only [dats]
theorem after0_4 (c : Dev nD) (t : Fin cfg0.N) : (dats m 0 c).after 4 t = amaxRow (colAt m c t.val t.isLt) := by dsimp only [dats]
theorem after0_5 (c : Dev nD) (t : Fin cfg0.N) : (dats m 0 c).after 5 t = scaleRow (windowMax (kept (iblk m c 1 t)) (amaxRow (colAt m c t.val t.isLt))) := by dsimp only [dats]
theorem after0_6 (c : Dev nD) (t : Fin cfg0.N) : (dats m 0 c).after 6 t = scale0 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the three rows' windows are idle, and where they are written back -/

theorem idle4 (t : Fin cfg0.N) (h : ¬ t.val % 94 = 93) : cfg0.idle 4 (grid0.coords t) = true := by
  have e := mt (hcond0_1 t).mp h
  show (!(k0_cond2 (grid0.coords t) == 1#1)) = true
  rw [Bool.not_eq_true', beq_eq_false_iff_ne]; exact e
theorem live4 (t : Fin cfg0.N) (h : t.val % 94 = 93) : cfg0.idle 4 (grid0.coords t) = false := by
  have e := (hcond0_1 t).mpr h
  show (!(k0_cond2 (grid0.coords t) == 1#1)) = false
  rw [Bool.not_eq_false', beq_iff_eq]; exact e
theorem idle5 (t : Fin cfg0.N) (h : ¬ t.val % 94 = 93) : cfg0.idle 5 (grid0.coords t) = true := idle4 t h
theorem live5 (t : Fin cfg0.N) (h : t.val % 94 = 93) : cfg0.idle 5 (grid0.coords t) = false := live4 t h
theorem idle6 (t : Fin cfg0.N) (h : ¬ t.val % 94 = 0) : cfg0.idle 6 (grid0.coords t) = true := by
  have e := mt (hcond0_0 t).mp h
  show (!(k0_cond1 (grid0.coords t) == 1#1)) = true
  rw [Bool.not_eq_true', beq_eq_false_iff_ne]; exact e
theorem live6 (t : Fin cfg0.N) (h : t.val % 94 = 0) : cfg0.idle 6 (grid0.coords t) = false := by
  have e := (hcond0_0 t).mpr h
  show (!(k0_cond1 (grid0.coords t) == 1#1)) = false
  rw [Bool.not_eq_false', beq_iff_eq]; exact e

theorem flush_rows : ∀ t : Fin grid0.N, (win0_4.flush t = true ↔ t.val = 93) ∧ (win0_5.flush t = true ↔ t.val = 93) ∧ (win0_6.flush t = true ↔ t.val = 93) := by
  decide +kernel

theorem flush4 (t : Fin cfg0.N) (h : t.val ≠ 93) : (cfg0.win 4).flush t = false :=
  Bool.eq_false_iff.mpr (mt (flush_rows t).1.mp h)
theorem flush5 (t : Fin cfg0.N) (h : t.val ≠ 93) : (cfg0.win 5).flush t = false :=
  Bool.eq_false_iff.mpr (mt (flush_rows t).2.1.mp h)
theorem flush6 (t : Fin cfg0.N) (h : t.val ≠ 93) : (cfg0.win 6).flush t = false :=
  Bool.eq_false_iff.mpr (mt (flush_rows t).2.2.mp h)

/-- After the first point the copied scale stays in its buffer. -/
theorem before0_6 (c : Dev nD) (n : ℕ) : ∀ (h : n + 1 < cfg0.N) (d), (dats m 0 c).before 6 ⟨n + 1, h⟩ d = scale0 m c := by
  induction n with
  | zero =>
    intro h d
    rw [(dats m 0 c).before_of_pos 6 ⟨0 + 1, h⟩ (Nat.succ_ne_zero _) rfl d, flush6 _ (by simp), if_neg Bool.false_ne_true]
    unfold Dat.left
    rw [live6 _ (by simp)]
    exact after0_6 m c _
  | succ n ih =>
    intro h d
    have hN : cfg0.N = 94 := N_0
    rw [(dats m 0 c).before_of_pos 6 ⟨n + 1 + 1, h⟩ (Nat.succ_ne_zero _) rfl d, flush6 _ (by show n + 1 + 1 - 1 ≠ 93; omega), if_neg Bool.false_ne_true]
    unfold Dat.left
    rw [idle6 _ (by show ¬ (n + 1 + 1 - 1) % 94 = 0; omega)]
    exact ih (by omega) d

theorem before0_6' (c : Dev nD) (t : Fin cfg0.N) (ht : t.val ≠ 0) (d) : (dats m 0 c).before 6 t d = scale0 m c := by
  obtain ⟨n, hn⟩ := t
  cases n with
  | zero => exact absurd rfl ht
  | succ n => exact before0_6 m c n hn d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (codes (iblk m c 0 t) (invTable (scale0 m c))) := by
  unfold Dat.leavesExact; rw [show cfg0.idle 3 (cfg0.grid.coords t) = false from rfl, after0_3]
theorem leaves4 (c : Dev nD) (t : Fin cfg0.N) (h : t.val % 94 = 93) : (dats m 0 c).leavesExact 4 t = owns (c : Thread nD τ) (ms0_4 t) fullShare (amaxRow (colAt m c t.val t.isLt)) := by
  unfold Dat.leavesExact; rw [live4 t h, after0_4]
theorem leaves5 (c : Dev nD) (t : Fin cfg0.N) (h : t.val % 94 = 93) : (dats m 0 c).leavesExact 5 t = owns (c : Thread nD τ) (ms0_5 t) fullShare (scaleRow (windowMax (kept (iblk m c 1 t)) (amaxRow (colAt m c t.val t.isLt)))) := by
  unfold Dat.leavesExact; rw [live5 t h, after0_5]
theorem leaves6 (c : Dev nD) (t : Fin cfg0.N) (h : t.val % 94 = 0) : (dats m 0 c).leavesExact 6 t = owns (c : Thread nD τ) (ms0_6 t) fullShare (scale0 m c) := by
  unfold Dat.leavesExact; rw [live6 t h, after0_6]
theorem leaves6_last (c : Dev nD) (t : Fin cfg0.N) (h : t.val = 93) : (dats m 0 c).leavesExact 6 t = owns (c : Thread nD τ) (ms0_6 t) fullShare (scale0 m c) := by
  unfold Dat.leavesExact; rw [idle6 t (by omega), (flush_rows t).2.2.mpr h, after0_6]
theorem leaves4_idle (c : Dev nD) (t : Fin cfg0.N) (h : ¬ t.val % 94 = 93) : (dats m 0 c).leavesExact 4 t = iprop(∃ d, owns (c : Thread nD τ) (ms0_4 t) fullShare ((dats m 0 c).before 4 t d)) :=
  (dats m 0 c).leavesExact_idle 4 t (idle4 t h) (flush4 t (by omega))
theorem leaves5_idle (c : Dev nD) (t : Fin cfg0.N) (h : ¬ t.val % 94 = 93) : (dats m 0 c).leavesExact 5 t = iprop(∃ d, owns (c : Thread nD τ) (ms0_5 t) fullShare ((dats m 0 c).before 5 t d)) :=
  (dats m 0 c).leavesExact_idle 5 t (idle5 t h) (flush5 t (by omega))
theorem leaves6_idle (c : Dev nD) (t : Fin cfg0.N) (h : ¬ t.val % 94 = 0) (h' : ¬ t.val % 94 = 93) : (dats m 0 c).leavesExact 6 t = iprop(∃ d, owns (c : Thread nD τ) (ms0_6 t) fullShare ((dats m 0 c).before 6 t d)) :=
  (dats m 0 c).leavesExact_idle 6 t (idle6 t h) (flush6 t (by omega))

set_option maxHeartbeats 9600000 in
/-- The body at the first point. -/
theorem sound_A (c : Dev nD) (t : Fin cfg0.N) (h0 : t.val % 94 = 0) (h1 : ¬ t.val % 94 = 93) :
    bodyPre m c t ⊢ wp frame (wpE (defs₀ (F := Ideal)) Variants.none c none) Set.univ (bodyAt0 t) (fun _ => bodyPost m c t) := by
  have hN : t.val < 94 := lt_of_lt_of_eq t.isLt (show cfg0.N = 94 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [leaves4_idle m c t h1, leaves5_idle m c t h1]
  rw [leaves6 m c t h0]
  have hz : t.val = 0 := by omega
  have es : scale0 m c = iblk m c 2 t := by
    obtain rfl : t = ⟨0, zero_lt_N⟩ := Fin.ext hz
    rfl
  rw [PhiS_castSucc m c t, PhiS_zero m c _ _ hz, PhiA0_eq, colAt_zero m c t hz, es]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun_A (F := Ideal) c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2.2 _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexists _; iexact H6
  isplitl [HS0]; · iexact HS0
  isplitl [HS1]; · iexact HS1
  iintro ⟨H0, H1, H2, ⟨%e3, H3⟩, H4, H5, ⟨%e6, H6⟩, ⟨%eS0, HS0⟩, ⟨%eS1, HS1⟩⟩
  isplitl [HS0 HS1 Hg]
  · isplitl [HS0 HS1]
    · isplitl [HS0]
      · unfold owns; iexists _; isplitr
        swap; · iexact HS0
        ipureintro; exact runA_inv c _ _ _ _ _ _ _ _ _ _ _ _ _ _ _ _ _ _ _ ((hcond0_0 t).mpr h0) (fun h => h1 ((hcond0_1 t).mp h)) (iblk m c 0 t) (iblk m c 1 t) (iblk m c 2 t) _
      unfold owns; iexists _; isplitr
      swap; · iexact HS1
      ipureintro; exact runA_colmax c _ _ _ _ _ _ _ _ _ _ _ _ _ _ _ _ _ _ _ ((hcond0_0 t).mpr h0) (fun h => h1 ((hcond0_1 t).mp h)) (iblk m c 0 t) (iblk m c 1 t) (iblk m c 2 t) _
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; exact runA_codes c _ _ _ _ _ _ _ _ _ _ _ _ _ _ _ _ _ _ _ ((hcond0_0 t).mpr h0) (fun h => h1 ((hcond0_1 t).mp h)) (iblk m c 0 t) (iblk m c 1 t) (iblk m c 2 t) _
  isplitl [H4]
  · iexists _; iexact H4
  isplitl [H5]
  · iexists _; iexact H5
  unfold owns; iexists _; isplitr
  swap; · iexact H6
  ipureintro; exact runA_scale c _ _ _ _ _ _ _ _ _ _ _ _ _ _ _ _ _ _ _ ((hcond0_0 t).mpr h0) (fun h => h1 ((hcond0_1 t).mp h)) (iblk m c 0 t) (iblk m c 1 t) (iblk m c 2 t) _

set_option maxHeartbeats 9600000 in
/-- The body at a point between the first and the last. -/
theorem sound_B (c : Dev nD) (t : Fin cfg0.N) (h0 : ¬ t.val % 94 = 0) (h1 : ¬ t.val % 94 = 93) :
    bodyPre m c t ⊢ wp frame (wpE (defs₀ (F := Ideal)) Variants.none c none) Set.univ (bodyAt0 t) (fun _ => bodyPost m c t) := by
  have hN : t.val < 94 := lt_of_lt_of_eq t.isLt (show cfg0.N = 94 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [leaves4_idle m c t h1, leaves5_idle m c t h1]
  rw [leaves6_idle m c t h0 h1]
  have hz : t.val ≠ 0 := by omega
  rw [PhiS_castSucc m c t, PhiS_pos m c _ _ hz, colAt_pos m c t hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun_B (F := Ideal) c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (invTable (scale0 m c)) (colAt m c (t.val - 1) (Nat.lt_of_le_of_lt (Nat.sub_le _ _) t.isLt))).2.2 _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [HS0]; · iexact HS0
  isplitl [HS1]; · iexact HS1
  iintro ⟨H0, H1, H2, ⟨%e3, H3⟩, H4, H5, H6, HS0, ⟨%eS1, HS1⟩⟩
  isplitl [HS0 HS1 Hg]
  · isplitl [HS0 HS1]
    · isplitl [HS0]
      · iexact HS0
      unfold owns; iexists _; isplitr
      swap; · iexact HS1
      ipureintro; exact runB_colmax c _ _ _ _ _ _ _ _ _ _ _ _ _ _ _ _ _ _ _ (fun h => h0 ((hcond0_0 t).mp h)) (fun h => h1 ((hcond0_1 t).mp h)) (iblk m c 0 t) (iblk m c 1 t) (iblk m c 2 t) (invTable (scale0 m c)) (colAt m c (t.val - 1) (Nat.lt_of_le_of_lt (Nat.sub_le _ _) t.isLt)) _
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; exact runB_codes c _ _ _ _ _ _ _ _ _ _ _ _ _ _ _ _ _ _ _ (fun h => h0 ((hcond0_0 t).mp h)) (fun h => h1 ((hcond0_1 t).mp h)) (iblk m c 0 t) (iblk m c 1 t) (iblk m c 2 t) (invTable (scale0 m c)) (colAt m c (t.val - 1) (Nat.lt_of_le_of_lt (Nat.sub_le _ _) t.isLt)) _
  isplitl [H4]
  · iexists _; iexact H4
  isplitl [H5]
  · iexists _; iexact H5
  iexists _; iexact H6

set_option maxHeartbeats 9600000 in
/-- The body at the last point. -/
theorem sound_C (c : Dev nD) (t : Fin cfg0.N) (h0 : ¬ t.val % 94 = 0) (h1 : t.val % 94 = 93) :
    bodyPre m c t ⊢ wp frame (wpE (defs₀ (F := Ideal)) Variants.none c none) Set.univ (bodyAt0 t) (fun _ => bodyPost m c t) := by
  have hN : t.val < 94 := lt_of_lt_of_eq t.isLt (show cfg0.N = 94 from N_0)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [leaves4 m c t h1, leaves5 m c t h1]
  rw [leaves6_last m c t (by omega)]
  have hz : t.val ≠ 0 := by omega
  rw [PhiS_castSucc m c t, PhiS_pos m c _ _ hz, colAt_pos m c t hz]
  simp only [before0_6' m c t hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun_C (F := Ideal) c (grid0.coords t) _ _ _ _ _ _ _ _ _ _ _ _ _ _ _ _ _ _ (fun h => h0 ((hcond0_0 t).mp h)) ((hcond0_1 t).mpr h1) (iblk m c 0 t) (iblk m c 1 t) (iblk m c 2 t) (invTable (scale0 m c)) (colAt m c (t.val - 1) (Nat.lt_of_le_of_lt (Nat.sub_le _ _) t.isLt))).2.2.2.2 _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  iintro ⟨H0, H1, H2, ⟨%e3, H3⟩, ⟨%e4, H4⟩, ⟨%e5, H5⟩, H6, HS0, ⟨%eS1, HS1⟩⟩
  isplitl [HS0 HS1 Hg]
  · isplitl [HS0 HS1]
    · isplitl [HS0]
      · iexact HS0
      unfold owns; iexists _; isplitr
      swap; · iexact HS1
      ipureintro; exact runC_colmax c _ _ _ _ _ _ _ _ _ _ _ _ _ _ _ _ _ _ _ (fun h => h0 ((hcond0_0 t).mp h)) ((hcond0_1 t).mpr h1) (iblk m c 0 t) (iblk m c 1 t) (iblk m c 2 t) (invTable (scale0 m c)) (colAt m c (t.val - 1) (Nat.lt_of_le_of_lt (Nat.sub_le _ _) t.isLt)) _
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; exact runC_codes c _ _ _ _ _ _ _ _ _ _ _ _ _ _ _ _ _ _ _ (fun h => h0 ((hcond0_0 t).mp h)) ((hcond0_1 t).mpr h1) (iblk m c 0 t) (iblk m c 1 t) (iblk m c 2 t) (invTable (scale0 m c)) (colAt m c (t.val - 1) (Nat.lt_of_le_of_lt (Nat.sub_le _ _) t.isLt)) _
  isplitl [H4]
  · unfold owns; iexists _; isplitr
    swap; · iexact H4
    ipureintro; exact runC_amax c _ _ _ _ _ _ _ _ _ _ _ _ _ _ _ _ _ _ _ (fun h => h0 ((hcond0_0 t).mp h)) ((hcond0_1 t).mpr h1) (iblk m c 0 t) (iblk m c 1 t) (iblk m c 2 t) (invTable (scale0 m c)) (colAt m c (t.val - 1) (Nat.lt_of_le_of_lt (Nat.sub_le _ _) t.isLt)) _
  isplitl [H5]
  · unfold owns; iexists _; isplitr
    swap; · iexact H5
    ipureintro; exact runC_scale c _ _ _ _ _ _ _ _ _ _ _ _ _ _ _ _ _ _ _ (fun h => h0 ((hcond0_0 t).mp h)) ((hcond0_1 t).mpr h1) (iblk m c 0 t) (iblk m c 1 t) (iblk m c 2 t) (invTable (scale0 m c)) (colAt m c (t.val - 1) (Nat.lt_of_le_of_lt (Nat.sub_le _ _) t.isLt)) _
  iexact H6

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 94 = 0
  · exact sound_A m c t h0 (by omega)
  by_cases h1 : t.val % 94 = 93
  · exact sound_C m c t h0 h1
  exact sound_B m c t h0 h1

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the tables' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 94 := N_0; omega)

/-! ## The launch -/

set_option backward.isDefEq.respectTransparency.types false in
/-- Every fair execution ends with every array as the proof data says, and every semaphore counter at zero. -/
theorem run_main_quiescent : θ_run defs (onTc (τ := τ) (main (F := Ideal))) (s₀ m ρ) (fun r => (Pipeline.FramePost cfgs (dats m) (0 : Fin 1) (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) (0 : Fin 1) (V m)) :=
  (θ_run defs _ _).mono (fun _ h => h.1) (run_main_quiescent m ρ)

end Cert.KernelIdeal.Gen

end
-- ==== Proof.KI.Arrays.lean ====
/- The arrays after the run, as functions of the arguments. -/
module

public import proofs.«01_k».proof.Proof.KI.Dats
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Val Idealize.ShloMosaic.Pipeline

variable (m : (ℓ : Loc nD τ sig) → Buf (Elt Ideal) ℓ) (ρ : Dev nD → PrngReg)

/-! ## The blocks -/

theorem idx_x : ∀ t : Fin grid0.N, win0_0.index t = ![t.val / 2, t.val % 2, 0] := by decide +kernel
theorem idx_hist : ∀ t : Fin grid0.N, win0_1.index t = ![0, 0] := by decide +kernel
theorem idx_scale : ∀ t : Fin grid0.N, win0_2.index t = ![0, 0] := by decide +kernel
theorem idx_codes : ∀ t : Fin grid0.N, win0_3.index t = ![t.val / 2, t.val % 2, 0] := by decide +kernel
theorem idx_amax : ∀ t : Fin grid0.N, win0_4.index t = ![0, 0] := by decide +kernel
theorem idx_new : ∀ t : Fin grid0.N, win0_5.index t = ![0, 0] := by decide +kernel
theorem idx_used : ∀ t : Fin grid0.N, win0_6.index t = ![0, 0] := by decide +kernel

/-- The three arguments, as arrays. -/
abbrev argX (c : Dev nD) : Vec Ideal S47x1024x3584 .bf16 := m ((c : Thread nD τ).loc main_arg0)
abbrev argH (c : Dev nD) : Vec Ideal S1024x256 .f32 := m ((c : Thread nD τ).loc main_arg1)
abbrev argS (c : Dev nD) : Vec Ideal S256 .f32 := m ((c : Thread nD τ).loc main_arg2)

theorem tlt (t : Fin cfg0.N) : t.val < 94 := lt_of_lt_of_eq t.isLt (show cfg0.N = 94 from N_0)

theorem blk_x (c : Dev nD) (t : Fin cfg0.N) (r : Fin 512) (k : Fin 3584) :
    (iblk m c 0 t : Vec Ideal S1x512x3584 .bf16) (ix3 0 r k) = argX m c (ix3 ⟨t.val / 2, by have := tlt t; omega⟩ ⟨t.val % 2 * 512 + r.val, by omega⟩ k) := by
  unfold iblk argX
  entry_read
  blk_ext [idx_x t]

theorem blk_hist (c : Dev nD) (t : Fin cfg0.N) : (iblk m c 1 t : Vec Ideal S1024x256 .f32) = argH m c := by
  funext y
  unfold iblk argH
  entry_read
  blk_ext [idx_hist t]

theorem blk_scale' (c : Dev nD) (t : Fin cfg0.N) : (iblk m c 2 t : Vec Ideal S1x256 .f32) = shapeCast S1x256 (argS m c) shapeCasts_S256_S1x256 := by
  funext y
  unfold iblk argS
  entry_read
  blk_ext [idx_scale t]

theorem blk_scale (c : Dev nD) (k : Fin 256) : scale0 m c (ix2 0 k) = argS m c (ix1 k) := by
  unfold scale0
  rw [blk_scale']
  pointwise

theorem mag_nonneg (a : EReal) : 0 ≤ mag a := by
  unfold mag
  rcases le_total 0 a with h | h
  · exact le_max_of_le_left h
  · exact le_max_of_le_right (EReal.neg_nonneg.mpr h)

/-- The codes the whole array ends at. -/
def codesOf (X : Vec Ideal S47x1024x3584 .bf16) (S : Vec Ideal S256 .f32) : Vec Ideal S47x1024x3584 .fp8e4m3 :=
  fun y => code (X y) (recip (S (ix1 ⟨(y 2).val / 14, by have h : (y 2).val < 3584 := (y 2).isLt; omega⟩)))

theorem final_codes (c : Dev nD) : (dats m 0 c).arrAt 3 (cfgs 0).N = codesOf (argX m c) (argS m c) := by
  refine (dats m 0 c).arrAt_eq_of_covers 3 _ (by decide +kernel) fun t hf y => ?_
  blk_simp
  rw [after0_3]
  have e : ∀ y : S1x512x3584.Idx, codes (iblk m c 0 t) (invTable (scale0 m c)) y = codesOf (argX m c) (argS m c) ((win0_3.blk t).view.emb y) := by
    intro y
    idx_vars y
    obtain rfl : y0 = 0 := Subsingleton.elim _ _
    have e1 : codesOf (argX m c) (argS m c) (((View.whole main_v1_0).slice (win0_3.rect t)).emb (ix3 0 y1 y2)) = codesOf (argX m c) (argS m c) (ix3 ⟨t.val / 2, by have := tlt t; omega⟩ ⟨t.val % 2 * 512 + y1.val, by omega⟩ y2) := by
      blk_ext [idx_codes t]
    refine Eq.trans ?_ e1.symm
    show code ((iblk m c 0 t : Vec Ideal S1x512x3584 .bf16) (ix3 0 y1 y2)) (recip (scale0 m c (ix2 0 ⟨y2.val / 14, _⟩))) = code (argX m c (ix3 ⟨t.val / 2, _⟩ ⟨t.val % 2 * 512 + y1.val, _⟩ y2)) (recip (argS m c (ix1 ⟨y2.val / 14, _⟩)))
    rw [blk_x, blk_scale]
  exact e y

/-! ## The table of maxima after the last point -/

theorem colAt_le (c : Dev nD) (n : ℕ) : ∀ (hn : n < cfg0.N) (s : Fin 16) (k : Fin 3584) (b : EReal),
    colAt m c n hn (ix2 s k) ≤ b ↔ 0 ≤ b ∧ ∀ t : Fin cfg0.N, t.val ≤ n → ∀ r : Fin 512, r.val % 16 = s.val →
      mag ((iblk m c 0 t : Vec Ideal S1x512x3584 .bf16) (ix3 0 r k)) ≤ b := by
  induction n with
  | zero =>
    intro hn s k b
    refine (colmax_le _ _ s k b).trans (and_congr Iff.rfl ⟨fun h t ht => ?_, fun h => h ⟨0, hn⟩ (le_refl _)⟩)
    obtain rfl : t = ⟨0, hn⟩ := Fin.ext (Nat.le_zero.mp ht)
    exact h
  | succ n ih =>
    intro hn s k b
    refine (colmax_le _ _ s k b).trans ?_
    rw [ih]
    constructor
    · rintro ⟨⟨h0, h1⟩, h2⟩
      refine ⟨h0, fun t ht => ?_⟩
      by_cases e : t.val = n + 1
      · obtain rfl : t = ⟨n + 1, hn⟩ := Fin.ext e
        exact h2
      · exact h1 t (by omega)
    · rintro ⟨h0, h1⟩
      exact ⟨⟨h0, fun t ht => h1 t (by omega)⟩, h1 ⟨n + 1, hn⟩ (le_refl _)⟩

/-- The row of maxima: an upper bound of an entry is an upper bound of the magnitudes of that channel. -/
theorem amax_le (c : Dev nD) (hn : 93 < cfg0.N) (k : Fin 256) (b : EReal) :
    amaxRow (colAt m c 93 hn) (ix2 0 k) ≤ b ↔
      ∀ (a : Fin 47) (r : Fin 1024) (l : Fin 3584), l.val / 14 = k.val → mag (argX m c (ix3 a r l)) ≤ b := by
  rw [amaxRow_le]
  constructor
  · intro h a r l hl
    have e := ((colAt_le m c 93 hn _ _ b).mp (h ⟨r.val % 512 % 16, by omega⟩ l hl)).2 ⟨2 * a.val + r.val / 512, lt_of_lt_of_eq (by omega) (show 94 = cfg0.N from N_0.symm)⟩ (by show 2 * a.val + r.val / 512 ≤ 93; omega) ⟨r.val % 512, by omega⟩ rfl
    have e1 : (⟨(2 * a.val + r.val / 512) / 2, by omega⟩ : Fin 47) = a := Fin.ext (by show (2 * a.val + r.val / 512) / 2 = a.val; omega)
    have e2 : (⟨(2 * a.val + r.val / 512) % 2 * 512 + r.val % 512, by omega⟩ : Fin 1024) = r := Fin.ext (by show (2 * a.val + r.val / 512) % 2 * 512 + r.val % 512 = r.val; omega)
    rw [blk_x] at e
    have e' : mag (argX m c (ix3 (⟨(2 * a.val + r.val / 512) / 2, by omega⟩ : Fin 47) (⟨(2 * a.val + r.val / 512) % 2 * 512 + r.val % 512, by omega⟩ : Fin 1024) l)) ≤ b := e
    rwa [e1, e2] at e'
  · intro h s l hl
    exact (colAt_le m c 93 hn _ _ b).mpr ⟨(mag_nonneg _).trans (h 0 0 l hl), fun t _ r _ => by rw [blk_x]; exact h _ _ l hl⟩

def lastPoint : Fin cfg0.N := ⟨93, lt_of_lt_of_eq (by decide) (show 94 = cfg0.N from N_0.symm)⟩

theorem final_amax (c : Dev nD) : (dats m 0 c).arrAt 4 (cfgs 0).N = amaxRow (colAt m c 93 lastPoint.isLt) := by
  refine (dats m 0 c).arrAt_eq_of_after_last 4 lastPoint (by decide +kernel) _ fun j => ?_
  blk_simp
  rw [after0_4]
  rfl

theorem final_new (c : Dev nD) : (dats m 0 c).arrAt 5 (cfgs 0).N = scaleRow (windowMax (kept (argH m c)) (amaxRow (colAt m c 93 lastPoint.isLt))) := by
  refine (dats m 0 c).arrAt_eq_of_after_last 5 lastPoint (by decide +kernel) _ fun j => ?_
  blk_simp
  rw [after0_5, blk_hist]
  rfl

theorem final_used (c : Dev nD) : (dats m 0 c).arrAt 6 (cfgs 0).N = shapeCast S1x256 (argS m c) shapeCasts_S256_S1x256 := by
  refine (dats m 0 c).arrAt_eq_of_after_last 6 lastPoint (by decide +kernel) _ fun j => ?_
  blk_simp
  rw [after0_6]
  unfold scale0
  rw [blk_scale']

end Cert.KernelIdeal.Gen

end
-- ==== Proof.Powers.lean ====
/- The powers of two a 32-bit pattern with an empty fraction reads as, and the least one above a number. -/
module

public import Idealize.ShloMosaic.PureOps.Ideal.Laws
public import Mathlib.Data.Finset.Fold
public import Mathlib.Analysis.SpecialFunctions.Pow.Real

@[expose] public section

noncomputable section

namespace Cert.Powers

open Idealize.ShloMosaic

/-- The number the pattern with exponent field `k` and an empty fraction reads as. -/
def B (k : ℕ) : EReal := Ideal.ofBits .f32 (BitVec.ofNat 32 (k * 8388608))

theorem fields : ∀ k : Fin 256, (BitVec.ofNat 32 (k.val * 8388608)).extractLsb' 31 1 = 0#1
    ∧ ((BitVec.ofNat 32 (k.val * 8388608)).extractLsb' 23 8).toNat = k.val
    ∧ ((BitVec.ofNat 32 (k.val * 8388608)).extractLsb' 0 23).toNat = 0 := by
  decide +kernel

theorem B_zero : B 0 = 0 := by
  unfold B
  exact Ideal.ofBits_zero_f32

theorem B_top : B 255 = ⊤ := by
  obtain ⟨h1, h2, h3⟩ := fields ⟨255, by omega⟩
  have e : ∀ k : ℕ, B k = Ideal.ieee 8 23 (BitVec.ofNat 32 (k * 8388608)) := fun _ => rfl
  rw [e]
  unfold Ideal.ieee
  simp only [h1, h2, h3]
  norm_num

theorem B_pow (k : ℕ) (h0 : 0 < k) (h1 : k < 255) : B k = (((2 : ℝ) ^ ((k : ℤ) - 127) : ℝ) : EReal) := by
  obtain ⟨e1, e2, e3⟩ := fields ⟨k, by omega⟩
  show Ideal.ieee 8 23 _ = _
  unfold Ideal.ieee
  simp only [e1, e2, e3]
  rw [if_neg (by omega), if_neg (by omega)]
  congr 1
  have h2 : (2 : ℝ) ≠ 0 := by norm_num
  have e : ((2 : ℝ) ^ ((k : ℤ) - 127)) = (2 : ℝ) ^ (23 : ℤ) * (2 : ℝ) ^ ((k : ℤ) - 127 - 23) := by
    rw [← zpow_add₀ h2]; congr 1; ring
  rw [e]
  norm_num

theorem B_lt (a b : ℕ) (h : a < b) (hb : b ≤ 255) : B a < B b := by
  rcases Nat.eq_zero_or_pos a with rfl | ha
  · rw [B_zero]
    rcases Nat.lt_or_ge b 255 with h1 | h1
    · rw [B_pow b h h1]; exact EReal.coe_pos.mpr (by positivity)
    · obtain rfl : b = 255 := by omega
      rw [B_top]; exact EReal.zero_lt_top
  · rw [B_pow a ha (by omega)]
    rcases Nat.lt_or_ge b 255 with h1 | h1
    · rw [B_pow b (by omega) h1]
      exact EReal.coe_lt_coe_iff.mpr (zpow_lt_zpow_right₀ (by norm_num) (by omega))
    · obtain rfl : b = 255 := by omega
      rw [B_top]; exact EReal.coe_lt_top _

theorem B_le (a b : ℕ) (h : a ≤ b) (hb : b ≤ 255) : B a ≤ B b := by
  rcases Nat.lt_or_ge a b with h1 | h1
  · exact (B_lt a b h1 hb).le
  · obtain rfl : a = b := by omega
    exact le_refl _

theorem B_one : B 127 = 1 := by
  rw [B_pow 127 (by omega) (by omega)]
  norm_num

/-- The exponent field `n` of `y`: the greatest pattern not above it. -/
def Field (n : ℕ) (y : EReal) : Prop := n ≤ 255 ∧ (B n ≤ y ∨ n = 0) ∧ (y < B (n + 1) ∨ n = 255)

/-- The least of the powers of two from `2 ^ -125` to `2 ^ 127` above `y`. -/
def above (y : EReal) : EReal := Finset.univ.fold min ⊤ fun x : Fin 253 => if y < B (x.val + 2) then B (x.val + 2) else ⊤

/-- The new scale of a normal number is the power of two after its exponent field. -/
theorem above_eq (n : ℕ) (y : EReal) (h : Field n y) (h0 : n ≠ 0) (h1 : n ≠ 255) : above y = B (n + 1) := by
  obtain ⟨hn, ha, hb⟩ := h
  have ha : B n ≤ y := ha.resolve_right h0
  have hb : y < B (n + 1) := hb.resolve_right h1
  refine eq_of_forall_le_iff fun c => ?_
  unfold above
  rw [Finset.le_fold_min]
  constructor
  · rintro ⟨-, hc⟩
    rcases Nat.lt_or_ge n 254 with h2 | h2
    · have e := hc ⟨n - 1, by omega⟩ (Finset.mem_univ _)
      have e1 : n - 1 + 2 = n + 1 := by omega
      simp only [e1, if_pos hb] at e
      exact e
    · obtain rfl : n = 254 := by omega
      rw [B_top]; exact le_top
  · intro hc
    refine ⟨le_top, fun x _ => ?_⟩
    split_ifs with hx
    · refine hc.trans (B_le _ _ ?_ (by omega))
      by_contra h3
      exact absurd (ha.trans_lt hx) (not_lt.mpr (B_le _ _ (by omega) hn))
    · exact le_top

/-- The scale of a quotient `y`: 1 below the normal range and at infinity, else the least power of two above. -/
def scaleOf (y : EReal) : EReal := if y < B 1 ∨ y = ⊤ then 1 else above y

theorem scaleOf_eq (n : ℕ) (y : EReal) (h : Field n y) : scaleOf y = if n = 0 ∨ n = 255 then B 127 else B (n + 1) := by
  unfold scaleOf
  by_cases h0 : n = 0
  · subst h0
    rw [if_pos (.inl (h.2.2.resolve_right (by omega))), if_pos (.inl rfl), B_one]
  by_cases h1 : n = 255
  · subst h1
    rw [if_pos (.inr (top_le_iff.mp (B_top ▸ h.2.1.resolve_right (by omega)))), if_pos (.inr rfl), B_one]
  · suffices hn : ¬ (y < B 1 ∨ y = ⊤) by
      rw [if_neg hn, if_neg (by rintro (h2 | h2) <;> contradiction), above_eq n y h h0 h1]
    rintro (h2 | h2)
    · exact absurd (h2.trans_le (B_le 1 n (by omega) h.1)) (h.2.1.resolve_right h0).not_gt
    · have h3 := h.2.2.resolve_right h1
      rw [h2] at h3
      exact not_top_lt h3

/-- One power of two as `jnp.power` computes it. -/
theorem pow_two (x : Fin 253) :
    Ideal.pow (Ideal.ofBits .f32 1073741824#32) (FloatOps.sitofp (F := Ideal) .f32 (IntOp.addi 4294967171#32 (BitVec.ofNat 32 x.val))) = B (x.val + 2) := by
  have e1 : (Ideal.ofBits .f32 1073741824#32 : EReal) = ((2 : ℝ) : EReal) := by
    have := B_pow 128 (by omega) (by omega)
    unfold B at this
    refine this.trans ?_
    norm_num
  have e2 : (IntOp.addi 4294967171#32 (BitVec.ofNat 32 x.val)).toInt = (x.val : ℤ) - 125 := by
    revert x; decide +kernel
  have e3 : FloatOps.sitofp (F := Ideal) .f32 (IntOp.addi 4294967171#32 (BitVec.ofNat 32 x.val)) = ((((x.val : ℤ) - 125 : ℤ) : ℝ) : EReal) := by
    rw [← e2]; rfl
  rw [e1, e3, B_pow _ (by omega) (by omega)]
  show ((Real.rpow 2 _ : ℝ) : EReal) = _
  congr 1
  refine (Real.rpow_intCast 2 _).trans ?_
  congr 1
  push_cast
  ring

/-! ## The search for the field -/

/-- The search so far has found `n`, the field's bits from `g` up. -/
def Found (g n : ℕ) (y : EReal) : Prop := g ∣ n ∧ n + g ≤ 256 ∧ (B n ≤ y ∨ n = 0) ∧ (y < B (n + g) ∨ n + g = 256)

theorem found_start (y : EReal) : Found (2 * 2 ^ 7) 0 y := ⟨dvd_zero _, by omega, .inr rfl, .inr rfl⟩

theorem found_end (n : ℕ) (y : EReal) (h : Found (2 ^ 0) n y) : Field n y := by
  obtain ⟨-, h1, h2, h3⟩ := h
  refine ⟨by omega, h2, h3.imp id fun h => by omega⟩

theorem or_bit : ∀ (j : Fin 8) (n : Fin 256), 2 * 2 ^ j.val ∣ n.val →
    IntOp.ori (BitVec.ofNat 32 n.val) (BitVec.ofNat 32 (2 ^ j.val)) = BitVec.ofNat 32 (n.val + 2 ^ j.val) := by
  decide +kernel

theorem shift_field : ∀ n : Fin 256, IntOp.shli ArithUnit.vector (BitVec.ofNat 32 n.val) 23#32 = BitVec.ofNat 32 (n.val * 8388608) := by
  decide +kernel

/-- One step of the search. -/
theorem found_step (j : Fin 8) (n : ℕ) (y : EReal) (e : BitVec 32) (he : e = BitVec.ofNat 32 n) (h : Found (2 * 2 ^ j.val) n y) :
    ∃ n', Found (2 ^ j.val) n' y ∧ (if Ideal.ofBits .f32 (IntOp.shli ArithUnit.vector (IntOp.ori e (BitVec.ofNat 32 (2 ^ j.val))) 23#32) ≤ y
      then IntOp.ori e (BitVec.ofNat 32 (2 ^ j.val)) else e) = BitVec.ofNat 32 n' := by
  obtain ⟨h0, h1, h2, h3⟩ := h
  have hp : 0 < 2 ^ j.val := by positivity
  have eo : IntOp.ori e (BitVec.ofNat 32 (2 ^ j.val)) = BitVec.ofNat 32 (n + 2 ^ j.val) := by
    rw [he]; exact or_bit j ⟨n, by omega⟩ h0
  have es : Ideal.ofBits .f32 (IntOp.shli ArithUnit.vector (IntOp.ori e (BitVec.ofNat 32 (2 ^ j.val))) 23#32) = B (n + 2 ^ j.val) := by
    rw [eo]; exact congrArg (Ideal.ofBits .f32) (shift_field ⟨n + 2 ^ j.val, by omega⟩)
  have hd : 2 ^ j.val ∣ n := (Dvd.intro_left 2 rfl).trans h0
  rw [es, eo, he]
  split_ifs with hc
  · refine ⟨n + 2 ^ j.val, ⟨hd.add (dvd_refl _), by omega, .inl hc, ?_⟩, rfl⟩
    rw [show n + 2 ^ j.val + 2 ^ j.val = n + 2 * 2 ^ j.val by ring]
    exact h3
  · exact ⟨n, ⟨hd, by omega, h2, .inl (not_le.mp hc)⟩, rfl⟩

/-- The word of the new scale, from the exponent field's. -/
theorem scale_word : ∀ n : Fin 256, IntOp.shli ArithUnit.vector (IntOp.addi (Scalar.select
      (IntOp.ori (IntOp.cmpi CmpIPredicate.eq (BitVec.ofNat 32 n.val) 0#32) (IntOp.cmpi CmpIPredicate.eq (BitVec.ofNat 32 n.val) 255#32))
      (0#32) (IntOp.subi (BitVec.ofNat 32 n.val) 126#32)) 127#32) 23#32
    = if n.val = 0 ∨ n.val = 255 then BitVec.ofNat 32 (127 * 8388608) else BitVec.ofNat 32 ((n.val + 1) * 8388608) := by
  decide +kernel

end Cert.Powers

end
-- ==== Proof.KI.Scale.lean ====
/- The new scale's arithmetic. -/
module

public import proofs.«01_k».proof.Proof.KI.Amax
public import proofs.«01_k».proof.Proof.Powers
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.SL.Sem
open Cert.KernelIdeal Cert.KernelIdeal.Gen

open Cert.Powers

/-- One step of the search, at an entry. -/
theorem bitStep_apply (b : BitVec 32) (y : Vec Ideal S1x256 .f32) (e : IVec S1x256 32) (k : Fin 256) :
    bitStep b y e (ix2 0 k) = (if Ideal.ofBits FTy.f32 (IntOp.shli ArithUnit.vector (IntOp.ori (e (ix2 0 k)) b) 23#32) ≤ y (ix2 0 k) then
      IntOp.ori (e (ix2 0 k)) b else e (ix2 0 k)) := by
  pointwise [bitStep]

theorem step (j : Fin 8) (b : BitVec 32) (hb : b = BitVec.ofNat 32 (2 ^ j.val)) (y : Vec Ideal S1x256 .f32) (e : IVec S1x256 32) (k : Fin 256)
    (h : ∃ n, Found (2 * 2 ^ j.val) n (y (ix2 0 k)) ∧ e (ix2 0 k) = BitVec.ofNat 32 n) :
    ∃ n, Found (2 ^ j.val) n (y (ix2 0 k)) ∧ bitStep b y e (ix2 0 k) = BitVec.ofNat 32 n := by
  obtain ⟨n, h, he⟩ := h
  rw [bitStep_apply, hb]
  exact found_step j n _ _ he h

/-- The search finds the exponent field of every entry. -/
theorem exponentRow_field (y : Vec Ideal S1x256 .f32) (k : Fin 256) :
    ∃ n, Field n (y (ix2 0 k)) ∧ exponentRow y (ix2 0 k) = BitVec.ofNat 32 n := by
  have h7 := step 7 128#32 rfl y (broadcast S1x256 0#32) k ⟨0, found_start _, rfl⟩
  have h6 := step 6 64#32 rfl y _ k h7
  have h5 := step 5 32#32 rfl y _ k h6
  have h4 := step 4 16#32 rfl y _ k h5
  have h3 := step 3 8#32 rfl y _ k h4
  have h2 := step 2 4#32 rfl y _ k h3
  have h1 := step 1 2#32 rfl y _ k h2
  obtain ⟨n, hn, e⟩ := step 0 1#32 rfl y _ k h1
  exact ⟨n, found_end n _ hn, e⟩

theorem pay5_apply (w : Vec Ideal S1x256 .f32) (e : IVec S1x256 32) (k : Fin 256) : k0_pay5 (F := Ideal) w e (ix2 0 k) = Ideal.ofBits FTy.f32
      (IntOp.shli ArithUnit.vector
        (IntOp.addi
          (if w (ix2 0 k) = 0 then 0#32
          else
            Scalar.select
              (IntOp.ori (IntOp.cmpi CmpIPredicate.eq (e (ix2 0 k)) 0#32)
                (IntOp.cmpi CmpIPredicate.eq (e (ix2 0 k)) 255#32))
              (0#32) (IntOp.subi (e (ix2 0 k)) 126#32))
          127#32)
        23#32) := by
  pointwise [k0_pay5]

/-- The new scale of a channel is that of the window's maximum over 448. -/
theorem scaleRow_apply (w : Vec Ideal S1x256 .f32) (k : Fin 256) :
    scaleRow w (ix2 0 k) = scaleOf (w (ix2 0 k) * Ideal.ofBits .f32 0x3B124925#32) := by
  unfold scaleRow
  obtain ⟨n, hn, e⟩ := exponentRow_field (mulf (F := Ideal) (φ := .f32) w (broadcast S1x256 (Scalar.ofBits (F := Ideal) .f32 0x3B124925#32))) k
  have hn : Field n (w (ix2 0 k) * Ideal.ofBits .f32 0x3B124925#32) := hn
  rw [pay5_apply, e]
  by_cases hw : w (ix2 0 k) = 0
  · rw [if_pos hw, hw, zero_mul]
    have h0 : (0 : EReal) < B 1 := B_zero ▸ B_lt 0 1 (by omega) (by omega)
    unfold scaleOf
    rw [if_pos (.inl h0), ← B_one]
    rfl
  · rw [if_neg hw, scaleOf_eq n _ hn, scale_word ⟨n, by have := hn.1; omega⟩]
    by_cases h : n = 0 ∨ n = 255
    · rw [if_pos h, if_pos h]; rfl
    · rw [if_neg h, if_neg h]; rfl

/-- The window's maximum, with what it is below. -/
theorem windowMax_le (h : Vec Ideal S1023x256 .f32) (a : Vec Ideal S1x256 .f32) (k : Fin 256) (b : EReal) :
    windowMax h a (ix2 0 k) ≤ b ↔ a (ix2 0 k) ≤ b ∧ ∀ r : Fin 1023, h (ix2 r k) ≤ b := by
  have e : windowMax h a (ix2 0 k) = max (Finset.fold max (Ideal.ofBits FTy.f32 4286578688#32) (fun x => h (ix2 x k)) Finset.univ) (a (ix2 0 k)) := by
    pointwise [windowMax]
  rw [e, max_le_iff, Finset.fold_max_le, show Ideal.ofBits FTy.f32 4286578688#32 = ⊥ by simp [Ideal.ofBits, Ideal.ieee]]
  simp [and_comm]

end Cert.KernelIdeal.Val
end
-- ==== Proof.RI.Terms.lean ====
/- The reference's results, named, and each read at an index. -/
module

public import proofs.«01_k».proof.Proof.Gen.ReferenceIdeal.Run
public import proofs.«01_k».proof.Proof.Powers
public import Idealize.ShloMosaic.Lib.Pointwise
public import Idealize.ShloMosaic.PureOps.Ideal.Laws

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

/-- The step's largest magnitude per channel. -/
def amaxRef (X : Vec Ideal S47x1024x3584 .bf16) : Vec Ideal S256 .f32 :=
  Host.reduce (FloatOps.maximumf (F := Ideal) (φ := .f32)) (Host.absf (F := Ideal) (φ := .f32) (extf .f32 (shapeCast _ X shapeCasts_S47x1024x3584_S47x1024x256x14) bitsLt_bf16_f32)) (constant (F := Ideal) S_ .f32 0xFF800000#32) reducesTo_S47x1024x256x14_S256_d0_1_3 h_S_

theorem amaxRef_le (X : Vec Ideal S47x1024x3584 .bf16) (k : Fin 256) (b : EReal) :
    amaxRef X (ix1 k) ≤ b ↔ ∀ (a : Fin 47) (r : Fin 1024) (l : Fin 3584), l.val / 14 = k.val → max (X (ix3 a r l)) (-X (ix3 a r l)) ≤ b := by
  unfold amaxRef
  pointwise
  rw [Finset.fold_max_le, show Ideal.ofBits FTy.f32 4286578688#32 = ⊥ by simp [Ideal.ofBits, Ideal.ieee]]
  constructor
  · rintro ⟨-, h⟩ a r l hl
    have e := h (ix4 a r k ⟨l.val % 14, by omega⟩) (Finset.mem_filter.mpr ⟨Finset.mem_univ _, funext fun z => match z with | 0 => Fin.ext ((Shape.ReducesTo.drop_apply_val_of_eq _ _ 0 2).trans rfl)⟩)
    have el : (⟨k.val * 14 + l.val % 14, by omega⟩ : Fin 3584) = l := Fin.ext (by show k.val * 14 + l.val % 14 = l.val; omega)
    have e' : max (X (ix3 a r (⟨k.val * 14 + l.val % 14, by omega⟩ : Fin 3584))) (-X (ix3 a r (⟨k.val * 14 + l.val % 14, by omega⟩ : Fin 3584))) ≤ b := e
    rwa [el] at e'
  · intro h
    refine ⟨bot_le, fun x hx => ?_⟩
    have hk : (x 2).val = k.val := (Shape.ReducesTo.drop_apply_val_of_eq reducesTo_S47x1024x256x14_S256_d0_1_3 x 0 2).symm.trans (congrArg (fun z : S256.Idx => (z 0).val) (Finset.mem_filter.mp hx).2)
    have h3 : (x 3).val < 14 := (x 3).isLt
    exact h (x 0) (x 1) _ (by show ((x 2).val * 14 + (x 3).val) / 14 = k.val; omega)

/-- The window of maxima, this step's first. -/
def windowRef (a : Vec Ideal S256 .f32) (H : Vec Ideal S1024x256 .f32) : Vec Ideal S256 .f32 :=
  Host.reduce (FloatOps.maximumf (F := Ideal) (φ := .f32)) (concatenate S1024x256 0 [⟨S1x256, (broadcastInDim S1x256 ![1] bcast_S256_S1x256_1 a)⟩, ⟨S1023x256, (extractStridedSlice S1023x256 ![0, 0] H slices_S1024x256_S1023x256_0_0)⟩] concatenates_S1x256_S1023x256_S1024x256_d0) (constant (F := Ideal) S_ .f32 0xFF800000#32) reducesTo_S1024x256_S256_d0 h_S_

theorem windowRef_le (a : Vec Ideal S256 .f32) (H : Vec Ideal S1024x256 .f32) (k : Fin 256) (b : EReal) :
    windowRef a H (ix1 k) ≤ b ↔ a (ix1 k) ≤ b ∧ ∀ r : Fin 1023, H (ix2 ⟨r.val, by omega⟩ k) ≤ b := by
  have e : windowRef a H (ix1 k) = Finset.fold max (Ideal.ofBits FTy.f32 4286578688#32)
      (fun x : Fin 1024 => if h : x.val < 1 then a (ix1 k) else H (ix2 ⟨x.val - 1, by omega⟩ k)) Finset.univ := by
    unfold windowRef
    pointwise
  rw [e, Finset.fold_max_le, show Ideal.ofBits FTy.f32 4286578688#32 = ⊥ by simp [Ideal.ofBits, Ideal.ieee]]
  constructor
  · rintro ⟨-, h⟩
    refine ⟨?_, fun r => ?_⟩
    · have := h 0 (Finset.mem_univ _)
      rwa [dif_pos (by decide)] at this
    · have := h ⟨r.val + 1, by omega⟩ (Finset.mem_univ _)
      rw [dif_neg (by show ¬ r.val + 1 < 1; omega)] at this
      exact this
  · rintro ⟨h0, h1⟩
    refine ⟨bot_le, fun x _ => ?_⟩
    split_ifs with hx
    · exact h0
    · exact h1 ⟨x.val - 1, by omega⟩

/-- The codes. -/
def codesRef (X : Vec Ideal S47x1024x3584 .bf16) (S : Vec Ideal S256 .f32) : Vec Ideal S47x1024x3584 .fp8e4m3 :=
  shapeCast _ (Host.convertf (F := Ideal) (φ := .f32) .fp8e4m3 (minimumf (broadcastInDim S47x1024x256x14 ![] bcast_S_S47x1024x256x14 (id (constant (F := Ideal) S_ .f32 0x43E00000#32))) (maximumf (broadcastInDim S47x1024x256x14 ![] bcast_S_S47x1024x256x14 (id (constant (F := Ideal) S_ .f32 0xC3E00000#32))) (mulf (extf .f32 (shapeCast _ X shapeCasts_S47x1024x3584_S47x1024x256x14) bitsLt_bf16_f32) (broadcastInDim S47x1024x256x14 ![0, 1, 2, 3] bcast_S1x1x256x1_S47x1024x256x14_0_1_2_3 (broadcastInDim S1x1x256x1 ![2, 3] bcast_S256x1_S1x1x256x1_2_3 (broadcastInDim S256x1 ![0] bcast_S256_S256x1_0 (Host.divf (broadcastInDim S256 ![] bcast_S_S256 (constant (F := Ideal) S_ .f32 0x3F800000#32)) S)))))))) shapeCasts_S47x1024x256x14_S47x1024x3584

theorem codesRef_apply (X : Vec Ideal S47x1024x3584 .bf16) (S : Vec Ideal S256 .f32) (a : Fin 47) (r : Fin 1024) (l : Fin 3584) :
    codesRef X S (ix3 a r l) = min (Ideal.ofBits .f32 0x43E00000#32) (max (Ideal.ofBits .f32 0xC3E00000#32) (X (ix3 a r l) * Ideal.div (Ideal.ofBits .f32 0x3F800000#32) (S (ix1 ⟨l.val / 14, by omega⟩)))) := by
  rw [Ideal.ofBits_one_f32]
  unfold codesRef
  pointwise
  rfl

/-- The scale, the least power of two above the window's maximum over 448. -/
def scaleRef (w : Vec Ideal S256 .f32) : Vec Ideal S256 .f32 :=
  select (ori (cmpf (F := Ideal) (φ := .f32) .olt (mulf (F := Ideal) (φ := .f32) w (broadcastInDim S256 ![] bcast_S_S256 (constant (F := Ideal) S_ .f32 0x3B124925#32))) (broadcastInDim S256 ![] bcast_S_S256 (constant (F := Ideal) S_ .f32 0x00800000#32))) (cmpf (F := Ideal) (φ := .f32) .oeq (mulf (F := Ideal) (φ := .f32) w (broadcastInDim S256 ![] bcast_S_S256 (constant (F := Ideal) S_ .f32 0x3B124925#32))) (broadcastInDim S256 ![] bcast_S_S256 (constant (F := Ideal) S_ .f32 0x7F800000#32)))) (broadcastInDim S256 ![] bcast_S_S256 (id (constant (F := Ideal) S_ .f32 0x3F800000#32)))
    (Host.reduce (FloatOps.minimumf (F := Ideal) (φ := .f32)) (select (cmpf (F := Ideal) (φ := .f32) .ogt (broadcastInDim S253x256 ![0, 1] bcast_S253x1_S253x256_0_1 (broadcastInDim S253x1 ![0] bcast_S253_S253x1_0 (Host.powf (F := Ideal) (φ := .f32) (broadcastInDim S253 ![] bcast_S_S253 (constant (F := Ideal) S_ .f32 0x40000000#32)) (sitofp .f32 (addi (broadcastInDim S253 ![] bcast_S_S253 (constantI S_ 32 4294967171#32)) (iotaInDim S253 32 0)))))) (broadcastInDim S253x256 ![0, 1] bcast_S1x256_S253x256_0_1 (broadcastInDim S1x256 ![1] bcast_S256_S1x256_1 (mulf (F := Ideal) (φ := .f32) w (broadcastInDim S256 ![] bcast_S_S256 (constant (F := Ideal) S_ .f32 0x3B124925#32))))))
     (broadcastInDim S253x256 ![0, 1] bcast_S253x1_S253x256_0_1 (broadcastInDim S253x1 ![0] bcast_S253_S253x1_0 (Host.powf (F := Ideal) (φ := .f32) (broadcastInDim S253 ![] bcast_S_S253 (constant (F := Ideal) S_ .f32 0x40000000#32)) (sitofp .f32 (addi (broadcastInDim S253 ![] bcast_S_S253 (constantI S_ 32 4294967171#32)) (iotaInDim S253 32 0)))))) (broadcastInDim S253x256 ![] bcast_S_S253x256 (id (constant (F := Ideal) S_ .f32 0x7F800000#32)))) (constant (F := Ideal) S_ .f32 0x7F800000#32) reducesTo_S253x256_S256_d0 h_S_)

open Cert.Powers

theorem scaleRef_apply (w : Vec Ideal S256 .f32) (k : Fin 256) :
    scaleRef w (ix1 k) = scaleOf (w (ix1 k) * Ideal.ofBits .f32 0x3B124925#32) := by
  unfold scaleRef
  pointwise
  simp only [pow_two]
  have e1 : Ideal.ofBits .f32 8388608#32 = B 1 := rfl
  have e2 : Ideal.ofBits .f32 2139095040#32 = ⊤ := B_top
  have e3 : id (constant (F := Ideal) S_ .f32 2139095040#32) ix0 = (⊤ : EReal) := B_top
  have e4 : id (constant (F := Ideal) S_ .f32 1065353216#32) ix0 = (1 : EReal) := Ideal.ofBits_one_f32
  rw [e1, e2]
  simp only [e3, e4]
  unfold scaleOf above
  generalize w (ix1 k) * Ideal.ofBits .f32 0x3B124925#32 = y
  by_cases h1 : y < B 1 <;> by_cases h2 : y = ⊤ <;> simp [h1, h2, Scalar.select, IntOp.ori]

end Cert.ReferenceIdeal.Val

end
-- ==== Proof.Bridge.lean ====
/- The kernel's four results are the reference's. -/
module

public import proofs.«01_k».proof.Proof.KI.Arrays
public import proofs.«01_k».proof.Proof.KI.Scale
public import proofs.«01_k».proof.Proof.RI.Terms

@[expose] public section

set_option maxRecDepth 16384

noncomputable section

namespace Cert.Bridge

open Idealize.ShloMosaic Idealize.ShloMosaic.TcCoe Idealize.SL.Sem
open Cert.KernelIdeal Cert.KernelIdeal.Gen Cert.KernelIdeal.Val

variable (m : (ℓ : Loc nD τ sig) → Buf (Elt Ideal) ℓ) (c : Dev nD)

/-- A row of the reference's, read at an entry. -/
theorem row_apply (v : Vec Ideal Cert.ReferenceIdeal.S256 .f32) (h) (k : Fin 256) :
    (broadcastInDim Cert.ReferenceIdeal.S1x256 ![1] h v : Vec Ideal Cert.ReferenceIdeal.S1x256 .f32) (ix2 0 k) = v (ix1 k) := by
  pointwise

/-- The kernel's row of maxima is the reference's. -/
theorem amax_entry (k : Fin 256) :
    amaxRow (colAt m c 93 lastPoint.isLt) (ix2 0 k) = Cert.ReferenceIdeal.Val.amaxRef (argX m c) (ix1 k) :=
  eq_of_forall_ge_iff fun b => (amax_le m c _ k b).trans (Cert.ReferenceIdeal.Val.amaxRef_le (argX m c) k b).symm

/-- Result 1. -/
theorem amax_eq (h) : (dats m 0 c).arrAt 4 (cfgs 0).N = broadcastInDim Cert.ReferenceIdeal.S1x256 ![1] h (Cert.ReferenceIdeal.Val.amaxRef (argX m c)) := by
  rw [final_amax]
  have e : ∀ y : S1x256.Idx, amaxRow (colAt m c 93 lastPoint.isLt) y = (broadcastInDim Cert.ReferenceIdeal.S1x256 ![1] h (Cert.ReferenceIdeal.Val.amaxRef (argX m c)) : Vec Ideal Cert.ReferenceIdeal.S1x256 .f32) y := by
    intro y
    idx_vars y
    obtain rfl : y0 = 0 := Subsingleton.elim _ _
    rw [row_apply, amax_entry]
  exact funext e

theorem kept_apply (h : Vec Ideal S1024x256 .f32) (r : Fin 1023) (k : Fin 256) : kept h (ix2 r k) = h (ix2 ⟨r.val, by omega⟩ k) :=
  congrArg h (funext fun z => match z with
    | 0 => Fin.ext (by show 0 + 1 * r.val = r.val; omega)
    | 1 => Fin.ext (by show 0 + 1 * k.val = k.val; omega))

theorem window_entry (k : Fin 256) :
    windowMax (kept (argH m c)) (amaxRow (colAt m c 93 lastPoint.isLt)) (ix2 0 k)
      = Cert.ReferenceIdeal.Val.windowRef (Cert.ReferenceIdeal.Val.amaxRef (argX m c)) (argH m c) (ix1 k) := by
  refine eq_of_forall_ge_iff fun b => (windowMax_le _ _ k b).trans ?_
  rw [Cert.ReferenceIdeal.Val.windowRef_le, amax_entry]
  exact and_congr Iff.rfl (forall_congr' fun r => iff_of_eq (congrArg (· ≤ b) (kept_apply (argH m c) r k)))

/-- Result 2. -/
theorem new_eq (h) : (dats m 0 c).arrAt 5 (cfgs 0).N = broadcastInDim Cert.ReferenceIdeal.S1x256 ![1] h (Cert.ReferenceIdeal.Val.scaleRef (Cert.ReferenceIdeal.Val.windowRef (Cert.ReferenceIdeal.Val.amaxRef (argX m c)) (argH m c))) := by
  rw [final_new]
  have e : ∀ y : S1x256.Idx, scaleRow (windowMax (kept (argH m c)) (amaxRow (colAt m c 93 lastPoint.isLt))) y = (broadcastInDim Cert.ReferenceIdeal.S1x256 ![1] h (Cert.ReferenceIdeal.Val.scaleRef (Cert.ReferenceIdeal.Val.windowRef (Cert.ReferenceIdeal.Val.amaxRef (argX m c)) (argH m c))) : Vec Ideal Cert.ReferenceIdeal.S1x256 .f32) y := by
    intro y
    idx_vars y
    obtain rfl : y0 = 0 := Subsingleton.elim _ _
    rw [row_apply, scaleRow_apply, window_entry, Cert.ReferenceIdeal.Val.scaleRef_apply]
  exact funext e

/-- Result 3. -/
theorem codes_eq : (dats m 0 c).arrAt 3 (cfgs 0).N = Cert.ReferenceIdeal.Val.codesRef (argX m c) (argS m c) := by
  rw [final_codes]
  have e : ∀ y : S47x1024x3584.Idx, codesOf (argX m c) (argS m c) y = Cert.ReferenceIdeal.Val.codesRef (argX m c) (argS m c) y := by
    intro y
    idx_vars y
    rw [Cert.ReferenceIdeal.Val.codesRef_apply]
    rfl
  exact funext e

/-- Result 4. -/
theorem used_eq (h) : (dats m 0 c).arrAt 6 (cfgs 0).N = broadcastInDim Cert.ReferenceIdeal.S1x256 ![1] h (argS m c) := by
  rw [final_used]
  have e : ∀ y : S1x256.Idx, (shapeCast S1x256 (argS m c) shapeCasts_S256_S1x256 : Vec Ideal S1x256 .f32) y = (broadcastInDim Cert.ReferenceIdeal.S1x256 ![1] h (argS m c) : Vec Ideal Cert.ReferenceIdeal.S1x256 .f32) y := by
    intro y
    idx_vars y
    obtain rfl : y0 = 0 := Subsingleton.elim _ _
    rw [row_apply]
    pointwise
  exact funext e

end Cert.Bridge
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KB.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bridge
public import Idealize.ShloMosaic.Adequacy
public import Idealize.ShloMosaic.Init

@[expose] public section

set_option maxRecDepth 16384

noncomputable section

namespace Cert.Proof

open Idealize.ShloMosaic Idealize.SL.Sem Cert.Kernel

/-- The idealized kernel ends, its arguments unchanged and its counters at zero. -/
theorem frame_KernelIdeal : Cert.quiescent_KernelIdeal := fun m g _ =>
  θ_run_and (Cert.KernelIdeal.Gen.frame_of m g (Cert.KernelIdeal.Gen.dats m) (Cert.KernelIdeal.Gen.A_eq m) (Cert.KernelIdeal.Gen.run_main m g))
    ((θ_run Cert.KernelIdeal.defs _ _).mono (fun _ h => h.2) (Cert.KernelIdeal.Gen.run_main_quiescent m g))

/-- The reference ends, its arguments unchanged; it declares no semaphore. -/
theorem frame_ReferenceIdeal : Cert.quiescent_ReferenceIdeal := fun m g _ =>
  (θ_run Cert.ReferenceIdeal.defs _ _).mono (fun r h => ⟨fun c => (h c).2.2.2.2, Idealize.ShloMosaic.sem_eq_zero_of_no_sems (by decide) r.2⟩) (Cert.ReferenceIdeal.Value.run m g)

/-- The four results of the idealized kernel are the reference's. -/
theorem algebraic : Cert.algebraic_KernelIdeal_ReferenceIdeal := by
  pair_intro
  · run_from Cert.KernelIdeal.Gen.run_main m g
  · refine (θ_run Cert.ReferenceIdeal.defs _ _).mono (fun r h c => ?_) (Cert.ReferenceIdeal.Value.run m' g')
    obtain ⟨h1, h2, h3, h4, h5⟩ := h c
    obtain ⟨a0, a1, a2⟩ := hagree c
    refine ⟨?_, ?_, ?_, ?_, h5⟩
    · refine h1.trans ?_
      rw [a0]
      exact (Cert.Bridge.amax_eq m c _).symm
    · refine h2.trans ?_
      rw [a0, a1]
      exact (Cert.Bridge.new_eq m c _).symm
    · refine h3.trans ?_
      rw [a0, a2]
      exact (Cert.Bridge.codes_eq m c).symm
    · refine h4.trans ?_
      rw [a2]
      exact (Cert.Bridge.used_eq m c _).symm

theorem claim : Cert.Claim := ⟨Cert.Kernel.Gen.facts, Cert.KernelIdeal.Gen.facts, Cert.ReferenceIdeal.Gen.facts,
  fun m g _ => Cert.Kernel.Whole.frame m g, frame_KernelIdeal, frame_ReferenceIdeal, trivial, algebraic⟩

end Cert.Proof

end
